-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unmasked [hPre_finite_and_unmasked : Cert.Pre_finite_and_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unmasked [hPre_finite_and_unmasked : Cert.Pre_finite_and_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_and_unmasked [hKernelIdeal : Cert.KernelIdeal.Facts] [hPre_finite_and_unmasked : Cert.Pre_finite_and_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_and_unmasked [hReferenceIdeal : Cert.ReferenceIdeal.Facts] [hPre_finite_and_unmasked : Cert.Pre_finite_and_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite_and_unmasked [hKernelIdeal : Cert.KernelIdeal.Facts] [hReferenceIdeal : Cert.ReferenceIdeal.Facts] [hPre_finite_and_unmasked : Cert.Pre_finite_and_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_and_unmasked : Cert.Pre_finite_and_unmasked.Facts),
    quiescent_Kernel (hKernel := hKernel)
    ∧ quiescent_KernelIdeal (hKernelIdeal := hKernelIdeal)
    ∧ quiescent_KernelIdeal_pre_finite_and_unmasked (hKernelIdeal := hKernelIdeal) (hPre_finite_and_unmasked := hPre_finite_and_unmasked)
    ∧ quiescent_ReferenceIdeal (hReferenceIdeal := hReferenceIdeal)
    ∧ quiescent_ReferenceIdeal_pre_finite_and_unmasked (hReferenceIdeal := hReferenceIdeal) (hPre_finite_and_unmasked := hPre_finite_and_unmasked)
    ∧ preserves_Kernel_KernelIdeal
    ∧ algebraic_KernelIdeal_ReferenceIdeal_pre_finite_and_unmasked (hKernelIdeal := hKernelIdeal) (hReferenceIdeal := hReferenceIdeal) (hPre_finite_and_unmasked := hPre_finite_and_unmasked)
-- ==== Pre_finite_and_unmasked.lean ====
abbrev S64x100x2048 : Shape := ⟨3, ![64, 100, 2048]⟩
abbrev S64x100x4 : Shape := ⟨3, ![64, 100, 4]⟩
abbrev S64x1024 : Shape := ⟨2, ![64, 1024]⟩
abbrev S64x100 : Shape := ⟨2, ![64, 100]⟩
abbrev S3076x512 : Shape := ⟨2, ![3076, 512]⟩
abbrev S512 : Shape := ⟨1, ![512]⟩
abbrev S512x512 : Shape := ⟨2, ![512, 512]⟩
abbrev S8x2052x256 : Shape := ⟨3, ![8, 2052, 256]⟩
abbrev S8 : Shape := ⟨1, ![8]⟩
abbrev S8x2048x128 : Shape := ⟨3, ![8, 2048, 128]⟩
abbrev S1024x2048 : Shape := ⟨2, ![1024, 2048]⟩
abbrev S2048 : Shape := ⟨1, ![2048]⟩
abbrev S2048x3129 : Shape := ⟨2, ![2048, 3129]⟩
abbrev S3129 : Shape := ⟨1, ![3129]⟩
abbrev S_ : Shape := ⟨0, ![]⟩

class Facts : Prop where
  bcast_S_S64x100x2048 : S_.BroadcastsInDim S64x100x2048 (![] : Fin 0 → Fin S64x100x2048.rank)
  reducesTo_S64x100x2048_S_d0_1_2 : S64x100x2048.ReducesTo [0, 1, 2] S_
  h_S_ : 0 < S_.numel
  bcast_S_S64x100x4 : S_.BroadcastsInDim S64x100x4 (![] : Fin 0 → Fin S64x100x4.rank)
  reducesTo_S64x100x4_S_d0_1_2 : S64x100x4.ReducesTo [0, 1, 2] S_
  bcast_S_S64x1024 : S_.BroadcastsInDim S64x1024 (![] : Fin 0 → Fin S64x1024.rank)
  reducesTo_S64x1024_S_d0_1 : S64x1024.ReducesTo [0, 1] S_
  bcast_S_S3076x512 : S_.BroadcastsInDim S3076x512 (![] : Fin 0 → Fin S3076x512.rank)
  reducesTo_S3076x512_S_d0_1 : S3076x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S8x2052x256 : S_.BroadcastsInDim S8x2052x256 (![] : Fin 0 → Fin S8x2052x256.rank)
  reducesTo_S8x2052x256_S_d0_1_2 : S8x2052x256.ReducesTo [0, 1, 2] S_
  bcast_S_S64x100 : S_.BroadcastsInDim S64x100 (![] : Fin 0 → Fin S64x100.rank)
  reducesTo_S64x100_S_d0_1 : S64x100.ReducesTo [0, 1] S_

variable [Facts]

def fn_part2 {F : FTy → Type} [FloatOps F] (main_arg3 : FVec F S64x100 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_cst_14 : FVec F S_ .f32 := constant S_ .f32 0x3F800000#32
  let main_v32 : FVec F S64x100 .f32 := broadcastInDim S64x100 ![] bcast_S_S64x100 main_cst_14
  let main_v33 : IVec S64x100 1 := cmpf .oeq main_arg3 main_v32
  let main_c_15 : IVec S_ 1 := constantI S_ 1 1#1
  let main_v34 : IVec S_ 1 := (fun x v => Host.reduce IntOp.andi x v reducesTo_S64x100_S_d0_1 h_S_) main_v33 main_c_15
  let main_v35 : IVec S_ 1 := andi main_v34 main_v3
  let main_v36 : IVec S_ 1 := andi main_v35 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  main_v42

def fn_part1 {F : FTy → Type} [FloatOps F] (main_arg3 : FVec F S64x100 .f32) (main_arg5 : FVec F S512 .f32) (main_arg6 : FVec F S512x512 .f32) (main_arg7 : FVec F S512 .f32) (main_arg8 : FVec F S8x2052x256 .f32) (main_v3 : IVec S_ 1) (main_v7 : IVec S_ 1) (main_v11 : IVec S_ 1) (main_v15 : IVec S_ 1) : IVec S_ 1 :=
  let main_v16 : FVec F S512 .f32 := Host.absf main_arg5
  let main_cst_6 : FVec F S_ .f32 := constant S_ .f32 0x7F800000#32
  let main_v17 : FVec F S512 .f32 := broadcastInDim S512 ![] bcast_S_S512 main_cst_6
  let main_v18 : IVec S512 1 := cmpf .olt main_v16 main_v17
  let main_c_7 : IVec S_ 1 := constantI S_ 1 1#1
  let main_v19 : IVec S_ 1 := (fun x v => Host.reduce IntOp.andi x v reducesTo_S512_S_d0 h_S_) main_v18 main_c_7
  let main_v20 : FVec F S512x512 .f32 := Host.absf main_arg6
  let main_cst_8 : FVec F S_ .f32 := constant S_ .f32 0x7F800000#32
  let main_v21 : FVec F S512x512 .f32 := broadcastInDim S512x512 ![] bcast_S_S512x512 main_cst_8
  let main_v22 : IVec S512x512 1 := cmpf .olt main_v20 main_v21
  let main_c_9 : IVec S_ 1 := constantI S_ 1 1#1
  let main_v23 : IVec S_ 1 := (fun x v => Host.reduce IntOp.andi x v reducesTo_S512x512_S_d0_1 h_S_) main_v22 main_c_9
  let main_v24 : FVec F S512 .f32 := Host.absf main_arg7
  let main_cst_10 : FVec F S_ .f32 := constant S_ .f32 0x7F800000#32
  let main_v25 : FVec F S512 .f32 := broadcastInDim S512 ![] bcast_S_S512 main_cst_10
  let main_v26 : IVec S512 1 := cmpf .olt main_v24 main_v25
  let main_c_11 : IVec S_ 1 := constantI S_ 1 1#1
  let main_v27 : IVec S_ 1 := (fun x v => Host.reduce IntOp.andi x v reducesTo_S512_S_d0 h_S_) main_v26 main_c_11
  let main_v28 : FVec F S8x2052x256 .f32 := Host.absf main_arg8
  let main_cst_12 : FVec F S_ .f32 := constant S_ .f32 0x7F800000#32
  let main_v29 : FVec F S8x2052x256 .f32 := broadcastInDim S8x2052x256 ![] bcast_S_S8x2052x256 main_cst_12
  let main_v30 : IVec S8x2052x256 1 := cmpf .olt main_v28 main_v29
  let main_c_13 : IVec S_ 1 := constantI S_ 1 1#1
  let main_v31 : IVec S_ 1 := (fun x v => Host.reduce IntOp.andi x v reducesTo_S8x2052x256_S_d0_1_2 h_S_) main_v30 main_c_13
  fn_part2 (F := F) main_arg3 main_v3 main_v7 main_v11 main_v15 main_v19 main_v23 main_v27 main_v31

def fn {F : FTy → Type} [FloatOps F] (main_arg0 : FVec F S64x100x2048 .f32) (main_arg1 : FVec F S64x100x4 .f32) (main_arg2 : FVec F S64x1024 .f32) (main_arg3 : FVec F S64x100 .f32) (main_arg4 : FVec F S3076x512 .f32) (main_arg5 : FVec F S512 .f32) (main_arg6 : FVec F S512x512 .f32) (main_arg7 : FVec F S512 .f32) (main_arg8 : FVec F S8x2052x256 .f32) (main_arg9 : FVec F S8 .f32) (main_arg10 : FVec F S8 .f32) (main_arg11 : FVec F S8 .f32) (main_arg12 : FVec F S8 .f32) (main_arg13 : FVec F S8x2048x128 .f32) (main_arg14 : FVec F S8 .f32) (main_arg15 : FVec F S8 .f32) (main_arg16 : FVec F S8 .f32) (main_arg17 : FVec F S8 .f32) (main_arg18 : FVec F S1024x2048 .f32) (main_arg19 : FVec F S2048 .f32) (main_arg20 : FVec F S2048x3129 .f32) (main_arg21 : FVec F S3129 .f32) : IVec S_ 1 :=
  let main_v0 : FVec F S64x100x2048 .f32 := Host.absf main_arg0
  let main_cst : FVec F S_ .f32 := constant S_ .f32 0x7F800000#32
  let main_v1 : FVec F S64x100x2048 .f32 := broadcastInDim S64x100x2048 ![] bcast_S_S64x100x2048 main_cst
  let main_v2 : IVec S64x100x2048 1 := cmpf .olt main_v0 main_v1
  let main_c : IVec S_ 1 := constantI S_ 1 1#1
  let main_v3 : IVec S_ 1 := (fun x v => Host.reduce IntOp.andi x v reducesTo_S64x100x2048_S_d0_1_2 h_S_) main_v2 main_c
  let main_v4 : FVec F S64x100x4 .f32 := Host.absf main_arg1
  let main_cst_0 : FVec F S_ .f32 := constant S_ .f32 0x7F800000#32
  let main_v5 : FVec F S64x100x4 .f32 := broadcastInDim S64x100x4 ![] bcast_S_S64x100x4 main_cst_0
  let main_v6 : IVec S64x100x4 1 := cmpf .olt main_v4 main_v5
  let main_c_1 : IVec S_ 1 := constantI S_ 1 1#1
  let main_v7 : IVec S_ 1 := (fun x v => Host.reduce IntOp.andi x v reducesTo_S64x100x4_S_d0_1_2 h_S_) main_v6 main_c_1
  let main_v8 : FVec F S64x1024 .f32 := Host.absf main_arg2
  let main_cst_2 : FVec F S_ .f32 := constant S_ .f32 0x7F800000#32
  let main_v9 : FVec F S64x1024 .f32 := broadcastInDim S64x1024 ![] bcast_S_S64x1024 main_cst_2
  let main_v10 : IVec S64x1024 1 := cmpf .olt main_v8 main_v9
  let main_c_3 : IVec S_ 1 := constantI S_ 1 1#1
  let main_v11 : IVec S_ 1 := (fun x v => Host.reduce IntOp.andi x v reducesTo_S64x1024_S_d0_1 h_S_) main_v10 main_c_3
  let main_v12 : FVec F S3076x512 .f32 := Host.absf main_arg4
  let main_cst_4 : FVec F S_ .f32 := constant S_ .f32 0x7F800000#32
  let main_v13 : FVec F S3076x512 .f32 := broadcastInDim S3076x512 ![] bcast_S_S3076x512 main_cst_4
  let main_v14 : IVec S3076x512 1 := cmpf .olt main_v12 main_v13
  let main_c_5 : IVec S_ 1 := constantI S_ 1 1#1
  let main_v15 : IVec S_ 1 := (fun x v => Host.reduce IntOp.andi x v reducesTo_S3076x512_S_d0_1 h_S_) main_v14 main_c_5
  fn_part1 (F := F) main_arg3 main_arg5 main_arg6 main_arg7 main_arg8 main_v3 main_v7 main_v11 main_v15
-- ==== Kernel.lean ====
abbrev S64x100x2048 : Shape := ⟨3, ![64, 100, 2048]⟩
abbrev S64x100x4 : Shape := ⟨3, ![64, 100, 4]⟩
abbrev S64x1024 : Shape := ⟨2, ![64, 1024]⟩
abbrev S64x100 : Shape := ⟨2, ![64, 100]⟩
abbrev S3076x512 : Shape := ⟨2, ![3076, 512]⟩
abbrev S512 : Shape := ⟨1, ![512]⟩
abbrev S512x512 : Shape := ⟨2, ![512, 512]⟩
abbrev S8x2052x256 : Shape := ⟨3, ![8, 2052, 256]⟩
abbrev S8 : Shape := ⟨1, ![8]⟩
abbrev S8x2048x128 : Shape := ⟨3, ![8, 2048, 128]⟩
abbrev S1024x2048 : Shape := ⟨2, ![1024, 2048]⟩
abbrev S2048 : Shape := ⟨1, ![2048]⟩
abbrev S2048x3129 : Shape := ⟨2, ![2048, 3129]⟩
abbrev S3129 : Shape := ⟨1, ![3129]⟩
abbrev S64x100x2 : Shape := ⟨3, ![64, 100, 2]⟩
abbrev S_ : Shape := ⟨0, ![]⟩
abbrev S64x2x100 : Shape := ⟨3, ![64, 2, 100]⟩
abbrev S2048x512 : Shape := ⟨2, ![2048, 512]⟩
abbrev S4x512 : Shape := ⟨2, ![4, 512]⟩
abbrev S1024x512 : Shape := ⟨2, ![1024, 512]⟩
abbrev S8x2048x256 : Shape := ⟨3, ![8, 2048, 256]⟩
abbrev S8x4x256 : Shape := ⟨3, ![8, 4, 256]⟩
abbrev S1x8 : Shape := ⟨2, ![1, 8]⟩
abbrev S4x8 : Shape := ⟨2, ![4, 8]⟩
abbrev S4x8x1 : Shape := ⟨3, ![4, 8, 1]⟩
abbrev S64x1x1024 : Shape := ⟨3, ![64, 1, 1024]⟩
abbrev S1x100x2048 : Shape := ⟨3, ![1, 100, 2048]⟩
abbrev S1x100x4 : Shape := ⟨3, ![1, 100, 4]⟩
abbrev S1x1x1024 : Shape := ⟨3, ![1, 1, 1024]⟩
abbrev S1x100x2 : Shape := ⟨3, ![1, 100, 2]⟩
abbrev S1x2x100 : Shape := ⟨3, ![1, 2, 100]⟩
abbrev S100x2048 : Shape := ⟨2, ![100, 2048]⟩
abbrev S100x4 : Shape := ⟨2, ![100, 4]⟩
abbrev S1x1024 : Shape := ⟨2, ![1, 1024]⟩
abbrev S1x512 : Shape := ⟨2, ![1, 512]⟩
abbrev S100x512 : Shape := ⟨2, ![100, 512]⟩
abbrev S100x100 : Shape := ⟨2, ![100, 100]⟩
abbrev S1x100x100 : Shape := ⟨3, ![1, 100, 100]⟩
abbrev S1x100x1 : Shape := ⟨3, ![1, 100, 1]⟩
abbrev S1x1x100 : Shape := ⟨3, ![1, 1, 100]⟩
abbrev S1x1x1 : Shape := ⟨3, ![1, 1, 1]⟩
abbrev S1x2048x256 : Shape := ⟨3, ![1, 2048, 256]⟩
abbrev S2048x256 : Shape := ⟨2, ![2048, 256]⟩
abbrev S1x4x256 : Shape := ⟨3, ![1, 4, 256]⟩
abbrev S4x256 : Shape := ⟨2, ![4, 256]⟩
abbrev S100x256 : Shape := ⟨2, ![100, 256]⟩
abbrev S1x100 : Shape := ⟨2, ![1, 100]⟩
abbrev S1x2048x128 : Shape := ⟨3, ![1, 2048, 128]⟩
abbrev S2048x128 : Shape := ⟨2, ![2048, 128]⟩
abbrev S100x128 : Shape := ⟨2, ![100, 128]⟩
abbrev S128 : Shape := ⟨1, ![128]⟩
abbrev S1x1x128 : Shape := ⟨3, ![1, 1, 128]⟩
abbrev S64x3129 : Shape := ⟨2, ![64, 3129]⟩
abbrev S64x2048 : Shape := ⟨2, ![64, 2048]⟩
abbrev S1x2048 : Shape := ⟨2, ![1, 2048]⟩
abbrev S1x3129 : Shape := ⟨2, ![1, 3129]⟩

abbrev nBuf : Space → Nat
  | .hbm => 81
  | .vmem => 30
  | .smem => 0
  | _ => 0

abbrev bufTy : (tb : Table) → Fin (tcTables nBuf tb) → BufTy
  | .hbm, ⟨0, _⟩ => ⟨S64x100x2048, .f32⟩
  | .hbm, ⟨1, _⟩ => ⟨S64x100x4, .f32⟩
  | .hbm, ⟨2, _⟩ => ⟨S64x1024, .f32⟩
  | .hbm, ⟨3, _⟩ => ⟨S64x100, .f32⟩
  | .hbm, ⟨4, _⟩ => ⟨S3076x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S8x2052x256, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8x2048x128, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S1024x2048, .f32⟩
  | .hbm, ⟨19, _⟩ => ⟨S2048, .f32⟩
  | .hbm, ⟨20, _⟩ => ⟨S2048x3129, .f32⟩
  | .hbm, ⟨21, _⟩ => ⟨S3129, .f32⟩
  | .hbm, ⟨22, _⟩ => ⟨S64x100x2, .f32⟩
  | .hbm, ⟨23, _⟩ => ⟨S64x100x2, .f32⟩
  | .hbm, ⟨24, _⟩ => ⟨S64x100x2, .f32⟩
  | .hbm, ⟨25, _⟩ => ⟨S_, .f32⟩
  | .hbm, ⟨26, _⟩ => ⟨S64x100x2, .f32⟩
  | .hbm, ⟨27, _⟩ => ⟨S64x100x2, .f32⟩
  | .hbm, ⟨28, _⟩ => ⟨S64x2x100, .f32⟩
  | .hbm, ⟨29, _⟩ => ⟨S2048x512, .f32⟩
  | .hbm, ⟨30, _⟩ => ⟨S4x512, .f32⟩
  | .hbm, ⟨31, _⟩ => ⟨S1024x512, .f32⟩
  | .hbm, ⟨32, _⟩ => ⟨S8x2048x256, .f32⟩
  | .hbm, ⟨33, _⟩ => ⟨S8x2048x256, .bf16⟩
  | .hbm, ⟨34, _⟩ => ⟨S8x4x256, .f32⟩
  | .hbm, ⟨35, _⟩ => ⟨S8x4x256, .bf16⟩
  | .hbm, ⟨36, _⟩ => ⟨S8x2048x128, .bf16⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S1x8, .f32⟩
  | .hbm, ⟨52, _⟩ => ⟨S1x8, .f32⟩
  | .hbm, ⟨53, _⟩ => ⟨S1x8, .f32⟩
  | .hbm, ⟨54, _⟩ => ⟨S1x8, .f32⟩
  | .hbm, ⟨55, _⟩ => ⟨S4x8, .f32⟩
  | .hbm, ⟨56, _⟩ => ⟨S4x8x1, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S1x8, .f32⟩
  | .hbm, ⟨72, _⟩ => ⟨S1x8, .f32⟩
  | .hbm, ⟨73, _⟩ => ⟨S1x8, .f32⟩
  | .hbm, ⟨74, _⟩ => ⟨S1x8, .f32⟩
  | .hbm, ⟨75, _⟩ => ⟨S4x8, .f32⟩
  | .hbm, ⟨76, _⟩ => ⟨S4x8x1, .f32⟩
  | .hbm, ⟨77, _⟩ => ⟨S64x1x1024, .f32⟩
  | .hbm, ⟨78, _⟩ => ⟨S64x1x1024, .f32⟩
  | .hbm, ⟨79, _⟩ => ⟨S64x1024, .f32⟩
  | .hbm, ⟨80, _⟩ => ⟨S64x3129, .f32⟩
  | .local _ .vmem, ⟨0, _⟩ => ⟨S1x100x2048, .f32⟩
  | .local _ .vmem, ⟨1, _⟩ => ⟨S1x100x2048, .f32⟩
  | .local _ .vmem, ⟨2, _⟩ => ⟨S1x100x4, .f32⟩
  | .local _ .vmem, ⟨3, _⟩ => ⟨S1x100x4, .f32⟩
  | .local _ .vmem, ⟨4, _⟩ => ⟨S1x1x1024, .f32⟩
  | .local _ .vmem, ⟨5, _⟩ => ⟨S1x1x1024, .f32⟩
  | .local _ .vmem, ⟨6, _⟩ => ⟨S1x100x2, .f32⟩
  | .local _ .vmem, ⟨7, _⟩ => ⟨S1x100x2, .f32⟩
  | .local _ .vmem, ⟨8, _⟩ => ⟨S1x2x100, .f32⟩
  | .local _ .vmem, ⟨9, _⟩ => ⟨S1x2x100, .f32⟩
  | .local _ .vmem, ⟨10, _⟩ => ⟨S2048x512, .f32⟩
  | .local _ .vmem, ⟨11, _⟩ => ⟨S4x512, .f32⟩
  | .local _ .vmem, ⟨12, _⟩ => ⟨S1024x512, .f32⟩
  | .local _ .vmem, ⟨13, _⟩ => ⟨S512, .f32⟩
  | .local _ .vmem, ⟨14, _⟩ => ⟨S512x512, .f32⟩
  | .local _ .vmem, ⟨15, _⟩ => ⟨S512, .f32⟩
  | .local _ .vmem, ⟨16, _⟩ => ⟨S4x8x1, .f32⟩
  | .local _ .vmem, ⟨17, _⟩ => ⟨S4x8x1, .f32⟩
  | .local _ .vmem, ⟨18, _⟩ => ⟨S8x2048x256, .bf16⟩
  | .local _ .vmem, ⟨19, _⟩ => ⟨S8x4x256, .bf16⟩
  | .local _ .vmem, ⟨20, _⟩ => ⟨S8x2048x128, .bf16⟩
  | .local _ .vmem, ⟨21, _⟩ => ⟨S1x1x1024, .f32⟩
  | .local _ .vmem, ⟨22, _⟩ => ⟨S1x1x1024, .f32⟩
  | .local _ .vmem, ⟨23, _⟩ => ⟨S64x1024, .f32⟩
  | .local _ .vmem, ⟨24, _⟩ => ⟨S64x1024, .f32⟩
  | .local _ .vmem, ⟨25, _⟩ => ⟨S1024x2048, .f32⟩
  | .local _ .vmem, ⟨26, _⟩ => ⟨S2048, .f32⟩
  | .local _ .vmem, ⟨27, _⟩ => ⟨S2048x3129, .f32⟩
  | .local _ .vmem, ⟨28, _⟩ => ⟨S3129, .f32⟩
  | .local _ .vmem, ⟨29, _⟩ => ⟨S64x3129, .f32⟩
  | _, _ => ⟨S64x100x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc1_stg0_0 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc1_sem0_0 : DmaSem sig := 23
abbrev cc1_sem1_0 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x100x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x100x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x2048x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x4x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x2048x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := .none

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x3129 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S3129 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x3129 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== ReferenceIdeal.lean ====
abbrev S64x100x2048 : Shape := ⟨3, ![64, 100, 2048]⟩
abbrev S64x100x4 : Shape := ⟨3, ![64, 100, 4]⟩
abbrev S64x1024 : Shape := ⟨2, ![64, 1024]⟩
abbrev S64x100 : Shape := ⟨2, ![64, 100]⟩
abbrev S3076x512 : Shape := ⟨2, ![3076, 512]⟩
abbrev S512 : Shape := ⟨1, ![512]⟩
abbrev S512x512 : Shape := ⟨2, ![512, 512]⟩
abbrev S8x2052x256 : Shape := ⟨3, ![8, 2052, 256]⟩
abbrev S8 : Shape := ⟨1, ![8]⟩
abbrev S8x2048x128 : Shape := ⟨3, ![8, 2048, 128]⟩
abbrev S1024x2048 : Shape := ⟨2, ![1024, 2048]⟩
abbrev S2048 : Shape := ⟨1, ![2048]⟩
abbrev S2048x3129 : Shape := ⟨2, ![2048, 3129]⟩
abbrev S3129 : Shape := ⟨1, ![3129]⟩
abbrev S64x100x2052 : Shape := ⟨3, ![64, 100, 2052]⟩
abbrev S64x100x2 : Shape := ⟨3, ![64, 100, 2]⟩
abbrev S_ : Shape := ⟨0, ![]⟩
abbrev S64x100x1x2 : Shape := ⟨4, ![64, 100, 1, 2]⟩
abbrev S64x1x100x2 : Shape := ⟨4, ![64, 1, 100, 2]⟩
abbrev S64x100x100x2 : Shape := ⟨4, ![64, 100, 100, 2]⟩
abbrev S100x100 : Shape := ⟨2, ![100, 100]⟩
abbrev S1x100x100 : Shape := ⟨3, ![1, 100, 100]⟩
abbrev S64x100x100x1 : Shape := ⟨4, ![64, 100, 100, 1]⟩
abbrev S64x100x100 : Shape := ⟨3, ![64, 100, 100]⟩
abbrev S64x1x1024 : Shape := ⟨3, ![64, 1, 1024]⟩
abbrev S64x100x1024 : Shape := ⟨3, ![64, 100, 1024]⟩
abbrev S64x100x3076 : Shape := ⟨3, ![64, 100, 3076]⟩
abbrev S64x100x512 : Shape := ⟨3, ![64, 100, 512]⟩
abbrev S1x1x512 : Shape := ⟨3, ![1, 1, 512]⟩
abbrev S64x100x16 : Shape := ⟨3, ![64, 100, 16]⟩
abbrev S64x100x1 : Shape := ⟨3, ![64, 100, 1]⟩
abbrev S640000x1 : Shape := ⟨2, ![640000, 1]⟩
abbrev S1x8 : Shape := ⟨2, ![1, 8]⟩
abbrev S640000x8 : Shape := ⟨2, ![640000, 8]⟩
abbrev S640000 : Shape := ⟨1, ![640000]⟩
abbrev S64x100x100x8 : Shape := ⟨4, ![64, 100, 100, 8]⟩
abbrev S64 : Shape := ⟨1, ![64]⟩
abbrev S64x1x1 : Shape := ⟨3, ![64, 1, 1]⟩
abbrev S64x100x16x1 : Shape := ⟨4, ![64, 100, 16, 1]⟩
abbrev S64x100x16x2 : Shape := ⟨4, ![64, 100, 16, 2]⟩
abbrev S64x100x16x2052 : Shape := ⟨4, ![64, 100, 16, 2052]⟩
abbrev S1 : Shape := ⟨1, ![1]⟩
abbrev S1x1x1x1 : Shape := ⟨4, ![1, 1, 1, 1]⟩
abbrev S64x100x16x8 : Shape := ⟨4, ![64, 100, 16, 8]⟩
abbrev S64x100x8x2052 : Shape := ⟨4, ![64, 100, 8, 2052]⟩
abbrev S8x256x64x100 : Shape := ⟨4, ![8, 256, 64, 100]⟩
abbrev S64x100x8x256 : Shape := ⟨4, ![64, 100, 8, 256]⟩
abbrev S64x100x16x2048 : Shape := ⟨4, ![64, 100, 16, 2048]⟩
abbrev S64x100x8x2048 : Shape := ⟨4, ![64, 100, 8, 2048]⟩
abbrev S8x128x64x100 : Shape := ⟨4, ![8, 128, 64, 100]⟩
abbrev S64x100x8x128 : Shape := ⟨4, ![64, 100, 8, 128]⟩
abbrev S64x2048 : Shape := ⟨2, ![64, 2048]⟩
abbrev S1x2048 : Shape := ⟨2, ![1, 2048]⟩
abbrev S64x3129 : Shape := ⟨2, ![64, 3129]⟩
abbrev S1x3129 : Shape := ⟨2, ![1, 3129]⟩

abbrev nBuf : Space → Nat
  | .hbm => 353
  | .vmem => 0
  | .smem => 0
  | _ => 0

abbrev hbmTy0_0 (i : Nat) : BufTy := match i % 128 with
  | 0 => ⟨S64x100x2048, .f32⟩
  | 1 => ⟨S64x100x4, .f32⟩
  | 2 => ⟨S64x1024, .f32⟩
  | 3 => ⟨S64x100, .f32⟩
  | 4 => ⟨S3076x512, .f32⟩
  | 5 => ⟨S512, .f32⟩
  | 6 => ⟨S512x512, .f32⟩
  | 7 => ⟨S512, .f32⟩
  | 8 => ⟨S8x2052x256, .f32⟩
  | 9 => ⟨S8, .f32⟩
  | 10 => ⟨S8, .f32⟩
  | 11 => ⟨S8, .f32⟩
  | 12 => ⟨S8, .f32⟩
  | 13 => ⟨S8x2048x128, .f32⟩
  | 14 => ⟨S8, .f32⟩
  | 15 => ⟨S8, .f32⟩
  | 16 => ⟨S8, .f32⟩
  | 17 => ⟨S8, .f32⟩
  | 18 => ⟨S1024x2048, .f32⟩
  | 19 => ⟨S2048, .f32⟩
  | 20 => ⟨S2048x3129, .f32⟩
  | 21 => ⟨S3129, .f32⟩
  | 22 => ⟨S64x100x2052, .f32⟩
  | 23 => ⟨S64x100x2, .f32⟩
  | 24 => ⟨S64x100x2, .f32⟩
  | 25 => ⟨S64x100x2, .f32⟩
  | 26 => ⟨S_, .f32⟩
  | 27 => ⟨S64x100x2, .f32⟩
  | 28 => ⟨S64x100x2, .f32⟩
  | 29 => ⟨S64x100x1x2, .f32⟩
  | 30 => ⟨S64x1x100x2, .f32⟩
  | 31 => ⟨S64x100x100x2, .f32⟩
  | 32 => ⟨S64x100x100x2, .f32⟩
  | 33 => ⟨S64x100x100x2, .f32⟩
  | 34 => ⟨S100x100, .i32⟩
  | 35 => ⟨S100x100, .i32⟩
  | 36 => ⟨S_, .i32⟩
  | 37 => ⟨S100x100, .i32⟩
  | 38 => ⟨S100x100, .i32⟩
  | 39 => ⟨S100x100, .i1⟩
  | 40 => ⟨S1x100x100, .i1⟩
  | 41 => ⟨S64x100x100x1, .f32⟩
  | 42 => ⟨S64x100x100, .f32⟩
  | 43 => ⟨S_, .f32⟩
  | 44 => ⟨S_, .f32⟩
  | 45 => ⟨S64x100x100, .i1⟩
  | 46 => ⟨S64x100x100, .f32⟩
  | 47 => ⟨S64x100x100, .f32⟩
  | 48 => ⟨S64x100x100x1, .f32⟩
  | 49 => ⟨S64x100x100, .f32⟩
  | 50 => ⟨S_, .f32⟩
  | 51 => ⟨S_, .f32⟩
  | 52 => ⟨S64x100x100, .i1⟩
  | 53 => ⟨S64x100x100, .f32⟩
  | 54 => ⟨S64x100x100, .f32⟩
  | 55 => ⟨S64x100x100, .f32⟩
  | 56 => ⟨S64x100x100, .f32⟩
  | 57 => ⟨S64x100x100, .f32⟩
  | 58 => ⟨S64x100x100, .f32⟩
  | 59 => ⟨S_, .f32⟩
  | 60 => ⟨S_, .f32⟩
  | 61 => ⟨S64x100x100, .i1⟩
  | 62 => ⟨S64x100x100, .f32⟩
  | 63 => ⟨S64x100x100, .f32⟩
  | 64 => ⟨S64x100x100, .f32⟩
  | 65 => ⟨S_, .f32⟩
  | 66 => ⟨S_, .f32⟩
  | 67 => ⟨S64x100x100, .i1⟩
  | 68 => ⟨S64x100x100, .f32⟩
  | 69 => ⟨S64x100x100, .f32⟩
  | 70 => ⟨S64x100x100x1, .f32⟩
  | 71 => ⟨S64x100x100x1, .f32⟩
  | 72 => ⟨S64x100x100x2, .f32⟩
  | 73 => ⟨S64x1x1024, .f32⟩
  | 74 => ⟨S64x100x1024, .f32⟩
  | 75 => ⟨S64x100x3076, .f32⟩
  | 76 => ⟨S64x100x512, .f32⟩
  | 77 => ⟨S1x1x512, .f32⟩
  | 78 => ⟨S64x100x512, .f32⟩
  | 79 => ⟨S64x100x512, .f32⟩
  | 80 => ⟨S_, .f32⟩
  | 81 => ⟨S64x100x512, .f32⟩
  | 82 => ⟨S64x100x512, .f32⟩
  | 83 => ⟨S64x100x512, .f32⟩
  | 84 => ⟨S1x1x512, .f32⟩
  | 85 => ⟨S64x100x512, .f32⟩
  | 86 => ⟨S64x100x512, .f32⟩
  | 87 => ⟨S_, .f32⟩
  | 88 => ⟨S64x100x512, .f32⟩
  | 89 => ⟨S64x100x512, .f32⟩
  | 90 => ⟨S64x100x100, .f32⟩
  | 91 => ⟨S64x100x16, .f32⟩
  | 92 => ⟨S64x100x16, .i32⟩
  | 93 => ⟨S_, .f32⟩
  | 94 => ⟨S64x100, .f32⟩
  | 95 => ⟨S_, .f32⟩
  | 96 => ⟨S64x100, .f32⟩
  | 97 => ⟨S64x100, .f32⟩
  | 98 => ⟨S64x100x1, .f32⟩
  | 99 => ⟨S64x100x16, .f32⟩
  | 100 => ⟨S64x100x16, .f32⟩
  | 101 => ⟨S64x100x16, .f32⟩
  | 102 => ⟨S_, .f32⟩
  | 103 => ⟨S64x100, .f32⟩
  | 104 => ⟨S64x100x1, .f32⟩
  | 105 => ⟨S64x100x16, .f32⟩
  | 106 => ⟨S64x100x16, .f32⟩
  | 107 => ⟨S64x100x100x1, .f32⟩
  | 108 => ⟨S64x100x100, .f32⟩
  | 109 => ⟨S640000x1, .f32⟩
  | 110 => ⟨S64x100x100x1, .f32⟩
  | 111 => ⟨S64x100x100, .f32⟩
  | 112 => ⟨S640000x1, .f32⟩
  | 113 => ⟨S1x8, .f32⟩
  | 114 => ⟨S640000x8, .f32⟩
  | 115 => ⟨S640000x8, .f32⟩
  | 116 => ⟨S640000x8, .f32⟩
  | 117 => ⟨S640000x8, .f32⟩
  | 118 => ⟨S_, .f32⟩
  | 119 => ⟨S640000x8, .f32⟩
  | 120 => ⟨S640000x8, .f32⟩
  | 121 => ⟨S1x8, .f32⟩
  | 122 => ⟨S1x8, .f32⟩
  | 123 => ⟨S_, .f32⟩
  | 124 => ⟨S1x8, .f32⟩
  | 125 => ⟨S1x8, .f32⟩
  | 126 => ⟨S640000x8, .f32⟩
  | 127 => ⟨S640000x8, .f32⟩
  | _ => ⟨S64x100x2048, .f32⟩

abbrev hbmTy0_1 (i : Nat) : BufTy := match i % 128 with
  | 0 => ⟨S640000x8, .f32⟩
  | 1 => ⟨S1x8, .f32⟩
  | 2 => ⟨S640000x8, .f32⟩
  | 3 => ⟨S640000x8, .f32⟩
  | 4 => ⟨S640000x8, .f32⟩
  | 5 => ⟨S640000x8, .f32⟩
  | 6 => ⟨S_, .f32⟩
  | 7 => ⟨S640000x8, .f32⟩
  | 8 => ⟨S640000x8, .f32⟩
  | 9 => ⟨S640000x8, .f32⟩
  | 10 => ⟨S640000x8, .f32⟩
  | 11 => ⟨S640000x8, .f32⟩
  | 12 => ⟨S_, .f32⟩
  | 13 => ⟨S640000x8, .f32⟩
  | 14 => ⟨S640000x8, .f32⟩
  | 15 => ⟨S1x8, .f32⟩
  | 16 => ⟨S1x8, .f32⟩
  | 17 => ⟨S_, .f32⟩
  | 18 => ⟨S1x8, .f32⟩
  | 19 => ⟨S1x8, .f32⟩
  | 20 => ⟨S640000x8, .f32⟩
  | 21 => ⟨S640000x8, .f32⟩
  | 22 => ⟨S640000x8, .f32⟩
  | 23 => ⟨S640000x8, .f32⟩
  | 24 => ⟨S640000x8, .i1⟩
  | 25 => ⟨S_, .f32⟩
  | 26 => ⟨S_, .f32⟩
  | 27 => ⟨S640000x8, .f32⟩
  | 28 => ⟨S640000x8, .f32⟩
  | 29 => ⟨S_, .f32⟩
  | 30 => ⟨S640000, .f32⟩
  | 31 => ⟨S640000x1, .f32⟩
  | 32 => ⟨S_, .f32⟩
  | 33 => ⟨S640000x1, .f32⟩
  | 34 => ⟨S640000x1, .f32⟩
  | 35 => ⟨S640000x8, .f32⟩
  | 36 => ⟨S640000x8, .f32⟩
  | 37 => ⟨S64x100x100x8, .f32⟩
  | 38 => ⟨S64, .i32⟩
  | 39 => ⟨S64x1x1, .i32⟩
  | 40 => ⟨S_, .i32⟩
  | 41 => ⟨S64x1x1, .i32⟩
  | 42 => ⟨S64x1x1, .i1⟩
  | 43 => ⟨S_, .i32⟩
  | 44 => ⟨S64x1x1, .i32⟩
  | 45 => ⟨S64x1x1, .i32⟩
  | 46 => ⟨S64x1x1, .i32⟩
  | 47 => ⟨S_, .i32⟩
  | 48 => ⟨S64x100x16, .i32⟩
  | 49 => ⟨S64x100x16, .i1⟩
  | 50 => ⟨S_, .i32⟩
  | 51 => ⟨S64x100x16, .i32⟩
  | 52 => ⟨S64x100x16, .i32⟩
  | 53 => ⟨S64x100x16, .i32⟩
  | 54 => ⟨S64x100x16, .i32⟩
  | 55 => ⟨S64x100x16x1, .i32⟩
  | 56 => ⟨S64x100x16x1, .i32⟩
  | 57 => ⟨S64x100x16x2, .i32⟩
  | 58 => ⟨S64x100x16x2052, .f32⟩
  | 59 => ⟨S64x100x16x1, .i32⟩
  | 60 => ⟨S_, .i32⟩
  | 61 => ⟨S64x100x16x1, .i32⟩
  | 62 => ⟨S64x100x16x1, .i1⟩
  | 63 => ⟨S_, .i32⟩
  | 64 => ⟨S64x100x16x1, .i32⟩
  | 65 => ⟨S64x100x16x1, .i32⟩
  | 66 => ⟨S64x100x16x1, .i32⟩
  | 67 => ⟨S1, .i32⟩
  | 68 => ⟨S_, .i32⟩
  | 69 => ⟨S64x100x16x1, .i32⟩
  | 70 => ⟨S64x100x16x1, .i1⟩
  | 71 => ⟨S1x1x1x1, .i32⟩
  | 72 => ⟨S64x100x16x1, .i32⟩
  | 73 => ⟨S64x100x16x1, .i1⟩
  | 74 => ⟨S64x100x16x1, .i1⟩
  | 75 => ⟨S_, .i1⟩
  | 76 => ⟨S64x100x16, .i1⟩
  | 77 => ⟨S64x100x16x8, .f32⟩
  | 78 => ⟨S64x100x16x8, .i1⟩
  | 79 => ⟨S_, .f32⟩
  | 80 => ⟨S64x100x16x8, .f32⟩
  | 81 => ⟨S64x100x16x8, .f32⟩
  | 82 => ⟨S64x100x16x1, .f32⟩
  | 83 => ⟨S64x100x16x2052, .f32⟩
  | 84 => ⟨S64x100x16x2052, .f32⟩
  | 85 => ⟨S64x100x8x2052, .f32⟩
  | 86 => ⟨S8x256x64x100, .f32⟩
  | 87 => ⟨S64x100x8x256, .f32⟩
  | 88 => ⟨S64x100x2048, .f32⟩
  | 89 => ⟨S_, .f32⟩
  | 90 => ⟨S64x100x2048, .f32⟩
  | 91 => ⟨S64x100x2048, .f32⟩
  | 92 => ⟨S64x100x100x1, .f32⟩
  | 93 => ⟨S64x100x100, .f32⟩
  | 94 => ⟨S640000x1, .f32⟩
  | 95 => ⟨S64x100x100x1, .f32⟩
  | 96 => ⟨S64x100x100, .f32⟩
  | 97 => ⟨S640000x1, .f32⟩
  | 98 => ⟨S1x8, .f32⟩
  | 99 => ⟨S640000x8, .f32⟩
  | 100 => ⟨S640000x8, .f32⟩
  | 101 => ⟨S640000x8, .f32⟩
  | 102 => ⟨S640000x8, .f32⟩
  | 103 => ⟨S_, .f32⟩
  | 104 => ⟨S640000x8, .f32⟩
  | 105 => ⟨S640000x8, .f32⟩
  | 106 => ⟨S1x8, .f32⟩
  | 107 => ⟨S1x8, .f32⟩
  | 108 => ⟨S_, .f32⟩
  | 109 => ⟨S1x8, .f32⟩
  | 110 => ⟨S1x8, .f32⟩
  | 111 => ⟨S640000x8, .f32⟩
  | 112 => ⟨S640000x8, .f32⟩
  | 113 => ⟨S640000x8, .f32⟩
  | 114 => ⟨S1x8, .f32⟩
  | 115 => ⟨S640000x8, .f32⟩
  | 116 => ⟨S640000x8, .f32⟩
  | 117 => ⟨S640000x8, .f32⟩
  | 118 => ⟨S640000x8, .f32⟩
  | 119 => ⟨S_, .f32⟩
  | 120 => ⟨S640000x8, .f32⟩
  | 121 => ⟨S640000x8, .f32⟩
  | 122 => ⟨S640000x8, .f32⟩
  | 123 => ⟨S640000x8, .f32⟩
  | 124 => ⟨S640000x8, .f32⟩
  | 125 => ⟨S_, .f32⟩
  | 126 => ⟨S640000x8, .f32⟩
  | 127 => ⟨S640000x8, .f32⟩
  | _ => ⟨S64x100x2048, .f32⟩

abbrev hbmTy0_2 (i : Nat) : BufTy := match i % 128 with
  | 0 => ⟨S1x8, .f32⟩
  | 1 => ⟨S1x8, .f32⟩
  | 2 => ⟨S_, .f32⟩
  | 3 => ⟨S1x8, .f32⟩
  | 4 => ⟨S1x8, .f32⟩
  | 5 => ⟨S640000x8, .f32⟩
  | 6 => ⟨S640000x8, .f32⟩
  | 7 => ⟨S640000x8, .f32⟩
  | 8 => ⟨S640000x8, .f32⟩
  | 9 => ⟨S640000x8, .i1⟩
  | 10 => ⟨S_, .f32⟩
  | 11 => ⟨S_, .f32⟩
  | 12 => ⟨S640000x8, .f32⟩
  | 13 => ⟨S640000x8, .f32⟩
  | 14 => ⟨S_, .f32⟩
  | 15 => ⟨S640000, .f32⟩
  | 16 => ⟨S640000x1, .f32⟩
  | 17 => ⟨S_, .f32⟩
  | 18 => ⟨S640000x1, .f32⟩
  | 19 => ⟨S640000x1, .f32⟩
  | 20 => ⟨S640000x8, .f32⟩
  | 21 => ⟨S640000x8, .f32⟩
  | 22 => ⟨S64x100x100x8, .f32⟩
  | 23 => ⟨S64, .i32⟩
  | 24 => ⟨S64x1x1, .i32⟩
  | 25 => ⟨S_, .i32⟩
  | 26 => ⟨S64x1x1, .i32⟩
  | 27 => ⟨S64x1x1, .i1⟩
  | 28 => ⟨S_, .i32⟩
  | 29 => ⟨S64x1x1, .i32⟩
  | 30 => ⟨S64x1x1, .i32⟩
  | 31 => ⟨S64x1x1, .i32⟩
  | 32 => ⟨S_, .i32⟩
  | 33 => ⟨S64x100x16, .i32⟩
  | 34 => ⟨S64x100x16, .i1⟩
  | 35 => ⟨S_, .i32⟩
  | 36 => ⟨S64x100x16, .i32⟩
  | 37 => ⟨S64x100x16, .i32⟩
  | 38 => ⟨S64x100x16, .i32⟩
  | 39 => ⟨S64x100x16, .i32⟩
  | 40 => ⟨S64x100x16x1, .i32⟩
  | 41 => ⟨S64x100x16x1, .i32⟩
  | 42 => ⟨S64x100x16x2, .i32⟩
  | 43 => ⟨S64x100x16x2048, .f32⟩
  | 44 => ⟨S64x100x16x1, .i32⟩
  | 45 => ⟨S_, .i32⟩
  | 46 => ⟨S64x100x16x1, .i32⟩
  | 47 => ⟨S64x100x16x1, .i1⟩
  | 48 => ⟨S_, .i32⟩
  | 49 => ⟨S64x100x16x1, .i32⟩
  | 50 => ⟨S64x100x16x1, .i32⟩
  | 51 => ⟨S64x100x16x1, .i32⟩
  | 52 => ⟨S1, .i32⟩
  | 53 => ⟨S_, .i32⟩
  | 54 => ⟨S64x100x16x1, .i32⟩
  | 55 => ⟨S64x100x16x1, .i1⟩
  | 56 => ⟨S1x1x1x1, .i32⟩
  | 57 => ⟨S64x100x16x1, .i32⟩
  | 58 => ⟨S64x100x16x1, .i1⟩
  | 59 => ⟨S64x100x16x1, .i1⟩
  | 60 => ⟨S_, .i1⟩
  | 61 => ⟨S64x100x16, .i1⟩
  | 62 => ⟨S64x100x16x8, .f32⟩
  | 63 => ⟨S64x100x16x8, .i1⟩
  | 64 => ⟨S_, .f32⟩
  | 65 => ⟨S64x100x16x8, .f32⟩
  | 66 => ⟨S64x100x16x8, .f32⟩
  | 67 => ⟨S64x100x16x1, .f32⟩
  | 68 => ⟨S64x100x16x2048, .f32⟩
  | 69 => ⟨S64x100x16x2048, .f32⟩
  | 70 => ⟨S64x100x8x2048, .f32⟩
  | 71 => ⟨S8x128x64x100, .f32⟩
  | 72 => ⟨S64x100x8x128, .f32⟩
  | 73 => ⟨S64x100x1024, .f32⟩
  | 74 => ⟨S_, .f32⟩
  | 75 => ⟨S64x100x1024, .f32⟩
  | 76 => ⟨S64x100x1024, .f32⟩
  | 77 => ⟨S64x100x1, .f32⟩
  | 78 => ⟨S64x100x1024, .f32⟩
  | 79 => ⟨S64x100x1024, .f32⟩
  | 80 => ⟨S_, .f32⟩
  | 81 => ⟨S64x1024, .f32⟩
  | 82 => ⟨S_, .f32⟩
  | 83 => ⟨S64x1024, .f32⟩
  | 84 => ⟨S64x1024, .f32⟩
  | 85 => ⟨S64x1024, .f32⟩
  | 86 => ⟨S64x2048, .f32⟩
  | 87 => ⟨S1x2048, .f32⟩
  | 88 => ⟨S64x2048, .f32⟩
  | 89 => ⟨S64x2048, .f32⟩
  | 90 => ⟨S_, .f32⟩
  | 91 => ⟨S64x2048, .f32⟩
  | 92 => ⟨S64x2048, .f32⟩
  | 93 => ⟨S64x3129, .f32⟩
  | 94 => ⟨S1x3129, .f32⟩
  | 95 => ⟨S64x3129, .f32⟩
  | 96 => ⟨S64x3129, .f32⟩
  | _ => ⟨S64x100x2048, .f32⟩

abbrev hbmTy (i : Nat) : BufTy := match i / 128 with
  | 0 => hbmTy0_0 i
  | 1 => hbmTy0_1 i
  | 2 => hbmTy0_2 i
  | _ => ⟨S64x100x2048, .f32⟩

abbrev bufTy : (tb : Table) → Fin (tcTables nBuf tb) → BufTy
  | .hbm, ⟨i, _⟩ => hbmTy i
  | _, _ => ⟨S64x100x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_0 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_1 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v27 : Ref sig .tc := ⟨.hbm, 63, rfl⟩
abbrev main_v28 : Ref sig .tc := ⟨.hbm, 64, rfl⟩
abbrev main_cst_3 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_4 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_5 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_values : Ref sig .tc := ⟨.hbm, 91, rfl⟩
abbrev main_indices : Ref sig .tc := ⟨.hbm, 92, rfl⟩
abbrev main_cst_6 : Ref sig .tc := ⟨.hbm, 93, rfl⟩
abbrev main_v49 : Ref sig .tc := ⟨.hbm, 94, rfl⟩
abbrev main_cst_7 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_8 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_9 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_10 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_11 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_12 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_13 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_14 : Ref sig .tc := ⟨.hbm, 153, rfl⟩
abbrev main_call4_v0 : Ref sig .tc := ⟨.hbm, 154, rfl⟩
abbrev main_call4_v1 : Ref sig .tc := ⟨.hbm, 155, rfl⟩
abbrev main_v101 : Ref sig .tc := ⟨.hbm, 156, rfl⟩
abbrev main_cst_15 : Ref sig .tc := ⟨.hbm, 157, rfl⟩
abbrev main_v102 : Ref sig .tc := ⟨.hbm, 158, rfl⟩
abbrev main_v103 : Ref sig .tc := ⟨.hbm, 159, rfl⟩
abbrev main_cst_16 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_c_17 : Ref sig .tc := ⟨.hbm, 168, rfl⟩
abbrev main_v111 : Ref sig .tc := ⟨.hbm, 169, rfl⟩
abbrev main_v112 : Ref sig .tc := ⟨.hbm, 170, rfl⟩
abbrev main_c_18 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_19 : Ref sig .tc := ⟨.hbm, 175, rfl⟩
abbrev main_v116 : Ref sig .tc := ⟨.hbm, 176, rfl⟩
abbrev main_v117 : Ref sig .tc := ⟨.hbm, 177, rfl⟩
abbrev main_c_20 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_call5_c : Ref sig .tc := ⟨.hbm, 188, rfl⟩
abbrev main_call5_v0 : Ref sig .tc := ⟨.hbm, 189, rfl⟩
abbrev main_call5_v1 : Ref sig .tc := ⟨.hbm, 190, rfl⟩
abbrev main_call5_c_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_c_1 : Ref sig .tc := ⟨.hbm, 195, rfl⟩
abbrev main_call5_c_2 : Ref sig .tc := ⟨.hbm, 196, rfl⟩
abbrev main_call5_v5 : Ref sig .tc := ⟨.hbm, 197, rfl⟩
abbrev main_call5_v6 : Ref sig .tc := ⟨.hbm, 198, rfl⟩
abbrev main_call5_v7 : Ref sig .tc := ⟨.hbm, 199, rfl⟩
abbrev main_call5_v8 : Ref sig .tc := ⟨.hbm, 200, rfl⟩
abbrev main_call5_v9 : Ref sig .tc := ⟨.hbm, 201, rfl⟩
abbrev main_call5_v10 : Ref sig .tc := ⟨.hbm, 202, rfl⟩
abbrev main_call5_c_3 : Ref sig .tc := ⟨.hbm, 203, rfl⟩
abbrev main_call5_v11 : Ref sig .tc := ⟨.hbm, 204, rfl⟩
abbrev main_call5_v12 : Ref sig .tc := ⟨.hbm, 205, rfl⟩
abbrev main_call5_v13 : Ref sig .tc := ⟨.hbm, 206, rfl⟩
abbrev main_call5_cst : Ref sig .tc := ⟨.hbm, 207, rfl⟩
abbrev main_call5_v14 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_cst_21 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_cst_22 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_cst_23 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_cst_24 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_cst_25 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_cst_26 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_cst_27 : Ref sig .tc := ⟨.hbm, 266, rfl⟩
abbrev main_call6_v0 : Ref sig .tc := ⟨.hbm, 267, rfl⟩
abbrev main_call6_v1 : Ref sig .tc := ⟨.hbm, 268, rfl⟩
abbrev main_v178 : Ref sig .tc := ⟨.hbm, 269, rfl⟩
abbrev main_cst_28 : Ref sig .tc := ⟨.hbm, 270, rfl⟩
abbrev main_v179 : Ref sig .tc := ⟨.hbm, 271, rfl⟩
abbrev main_v180 : Ref sig .tc := ⟨.hbm, 272, rfl⟩
abbrev main_cst_29 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_c_30 : Ref sig .tc := ⟨.hbm, 281, rfl⟩
abbrev main_v188 : Ref sig .tc := ⟨.hbm, 282, rfl⟩
abbrev main_v189 : Ref sig .tc := ⟨.hbm, 283, rfl⟩
abbrev main_c_31 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_c_32 : Ref sig .tc := ⟨.hbm, 288, rfl⟩
abbrev main_v193 : Ref sig .tc := ⟨.hbm, 289, rfl⟩
abbrev main_v194 : Ref sig .tc := ⟨.hbm, 290, rfl⟩
abbrev main_c_33 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_call7_c : Ref sig .tc := ⟨.hbm, 301, rfl⟩
abbrev main_call7_v0 : Ref sig .tc := ⟨.hbm, 302, rfl⟩
abbrev main_call7_v1 : Ref sig .tc := ⟨.hbm, 303, rfl⟩
abbrev main_call7_c_0 : Ref sig .tc := ⟨.hbm, 304, rfl⟩
abbrev main_call7_v2 : Ref sig .tc := ⟨.hbm, 305, rfl⟩
abbrev main_call7_v3 : Ref sig .tc := ⟨.hbm, 306, rfl⟩
abbrev main_call7_v4 : Ref sig .tc := ⟨.hbm, 307, rfl⟩
abbrev main_call7_c_1 : Ref sig .tc := ⟨.hbm, 308, rfl⟩
abbrev main_call7_c_2 : Ref sig .tc := ⟨.hbm, 309, rfl⟩
abbrev main_call7_v5 : Ref sig .tc := ⟨.hbm, 310, rfl⟩
abbrev main_call7_v6 : Ref sig .tc := ⟨.hbm, 311, rfl⟩
abbrev main_call7_v7 : Ref sig .tc := ⟨.hbm, 312, rfl⟩
abbrev main_call7_v8 : Ref sig .tc := ⟨.hbm, 313, rfl⟩
abbrev main_call7_v9 : Ref sig .tc := ⟨.hbm, 314, rfl⟩
abbrev main_call7_v10 : Ref sig .tc := ⟨.hbm, 315, rfl⟩
abbrev main_call7_c_3 : Ref sig .tc := ⟨.hbm, 316, rfl⟩
abbrev main_call7_v11 : Ref sig .tc := ⟨.hbm, 317, rfl⟩
abbrev main_call7_v12 : Ref sig .tc := ⟨.hbm, 318, rfl⟩
abbrev main_call7_v13 : Ref sig .tc := ⟨.hbm, 319, rfl⟩
abbrev main_call7_cst : Ref sig .tc := ⟨.hbm, 320, rfl⟩
abbrev main_call7_v14 : Ref sig .tc := ⟨.hbm, 321, rfl⟩
abbrev main_v204 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_v208 : Ref sig .tc := ⟨.hbm, 326, rfl⟩
abbrev main_v209 : Ref sig .tc := ⟨.hbm, 327, rfl⟩
abbrev main_v210 : Ref sig .tc := ⟨.hbm, 328, rfl⟩
abbrev main_v211 : Ref sig .tc := ⟨.hbm, 329, rfl⟩
abbrev main_cst_34 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_cst_35 : Ref sig .tc := ⟨.hbm, 336, rfl⟩
abbrev main_v217 : Ref sig .tc := ⟨.hbm, 337, rfl⟩
abbrev main_cst_36 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_cst_37 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩

abbrev nD : Nat := 1
abbrev τ : Topo := Topo.v7x

variable {F : FTy → Type} [FloatOps F]
-- ==== Proof.TopRow.lean ====
/-
  A row's sixteen greatest entries, two ways. `step` is one round of repeated maximum with a running count; after
  sixteen rounds the threshold it keeps is the sixteenth greatest value (`threshold`), and the entries above it
  together with enough of the entries equal to it, taken from the left, are those that fewer than sixteen entries
  beat (`selected_iff`). A stable descending sort lists the entries in the order "greater first, then from the
  left" (`sum_sorted`), so a sum over its first sixteen positions is a sum over the same entries.
-/
module

public import Mathlib.Data.EReal.Basic
public import Mathlib.Algebra.BigOperators.Fin
public import Mathlib.Order.Interval.Finset.Fin
public import Mathlib.Data.List.FinRange
public import Idealize.ShloMosaic.PureOps.ShapeOps
public import Idealize.ShloMosaic.Lib.SortFacts

@[expose] public section

noncomputable section

namespace Cert.TopRow

open Finset Idealize.ShloMosaic

variable {ι : Type} [Fintype ι] [Nonempty ι] [DecidableEq ι]

/-- The greatest entry of a row. -/
def rowMax (r : ι → EReal) : EReal := univ.sup r

omit [Nonempty ι] [DecidableEq ι] in
theorem le_rowMax (r : ι → EReal) (k : ι) : r k ≤ rowMax r := Finset.le_sup (mem_univ k)

omit [DecidableEq ι] in
theorem exists_rowMax (r : ι → EReal) : ∃ k, r k = rowMax r := by
  obtain ⟨k, -, h⟩ := Finset.exists_mem_eq_sup univ univ_nonempty r
  exact ⟨k, h.symm⟩

/-- What the rounds carry: the row with the values met so far replaced, how many were met, the last one met in time. -/
structure St (ι : Type) where
  rem : ι → EReal
  cum : ℕ
  thr : EReal

/-- One round: the greatest remaining value, kept as the threshold while fewer than sixteen entries were met. -/
def step (lo : EReal) (s : St ι) : St ι where
  rem := fun k => if s.rem k = rowMax s.rem then lo else s.rem k
  cum := s.cum + (univ.filter fun k => s.rem k = rowMax s.rem).card
  thr := if s.cum < 16 then rowMax s.rem else s.thr

/-- Before the first round. -/
def start (l : ι → EReal) : St ι := ⟨l, 0, rowMax l⟩

/-- What holds after `n` rounds. -/
def Inv (lo : EReal) (l : ι → EReal) (n : ℕ) (s : St ι) : Prop :=
  ((∀ k, s.rem k = if s.thr ≤ l k then lo else l k) ∧ s.cum = (univ.filter fun k => s.thr ≤ l k).card
      ∧ n ≤ s.cum ∧ (univ.filter fun k => s.thr < l k).card < 16)
  ∨ (16 ≤ s.cum ∧ (univ.filter fun k => s.thr < l k).card < 16 ∧ 16 ≤ (univ.filter fun k => s.thr ≤ l k).card)

omit [DecidableEq ι] in
theorem inv_one (lo : EReal) (l : ι → EReal) : Inv lo l 1 (step lo (start l)) := by
  left
  have hle : ∀ k, rowMax l ≤ l k ↔ l k = rowMax l := fun k => ⟨fun h => le_antisymm (le_rowMax l k) h, fun h => h.ge⟩
  refine ⟨fun k => ?_, ?_, ?_, ?_⟩
  · show (if l k = rowMax l then lo else l k) = if rowMax l ≤ l k then lo else l k
    exact if_congr (hle k).symm rfl rfl
  · show 0 + (univ.filter fun k => l k = rowMax l).card = (univ.filter fun k => rowMax l ≤ l k).card
    rw [zero_add]
    exact congrArg Finset.card (Finset.filter_congr fun k _ => (hle k).symm)
  · obtain ⟨k, hk⟩ := exists_rowMax l
    simp only [step, start, zero_add]
    exact Finset.card_pos.mpr ⟨k, Finset.mem_filter.mpr ⟨mem_univ k, hk⟩⟩
  · have : (univ.filter fun k => rowMax l < l k) = ∅ := by
      ext k; simp [le_rowMax l k]
    simp [step, start, this]

theorem inv_step (lo : EReal) (l : ι → EReal) (hlo : ∀ k, lo < l k) (hcard : 16 ≤ Fintype.card ι) (n : ℕ) (s : St ι)
    (h : Inv lo l n s) : Inv lo l (n + 1) (step lo s) := by
  rcases h with ⟨hrem, hcum, hn, hgt⟩ | ⟨h16, hgt, hge⟩
  · by_cases hc : s.cum < 16
    · left
      obtain ⟨k₀, hk₀⟩ : ∃ k, ¬ s.thr ≤ l k := by
        by_contra hall
        push Not at hall
        have : (univ.filter fun k => s.thr ≤ l k) = univ := by ext k; simp [hall k]
        rw [this, Finset.card_univ] at hcum
        omega
      set c := rowMax s.rem with hcdef
      have hlt0 : lo < c := lt_of_lt_of_le (by rw [hrem k₀, if_neg hk₀]; exact hlo k₀) (le_rowMax s.rem k₀)
      have hcc : c < s.thr := by
        obtain ⟨k₁, hk₁⟩ := exists_rowMax s.rem
        rw [hrem k₁] at hk₁
        split at hk₁
        · exact absurd (hk₁.trans hcdef.symm) hlt0.ne
        · rename_i h1
          rw [← hcdef] at hk₁
          rw [← hk₁]; exact not_le.mp h1
      have heq : ∀ k, s.rem k = c ↔ l k = c := fun k => by
        rw [hrem k]
        split
        · rename_i h1
          exact ⟨fun h => absurd h hlt0.ne, fun h => absurd (h ▸ h1) (not_le.mpr hcc)⟩
        · exact Iff.rfl
      have hbetween : ∀ k, c ≤ l k ↔ s.thr ≤ l k ∨ l k = c := fun k => by
        constructor
        · intro h
          by_cases h1 : s.thr ≤ l k
          · exact Or.inl h1
          · right
            refine le_antisymm ?_ h
            have := le_rowMax s.rem k
            rwa [hrem k, if_neg h1] at this
        · rintro (h | h)
          · exact hcc.le.trans h
          · exact h.ge
      have hsplit : (univ.filter fun k => c ≤ l k).card
          = (univ.filter fun k => s.thr ≤ l k).card + (univ.filter fun k => l k = c).card := by
        rw [← Finset.card_union_of_disjoint]
        · congr 1; ext k; simp [hbetween k]
        · rw [Finset.disjoint_left]
          intro k h1 h2
          simp only [mem_filter, mem_univ, true_and] at h1 h2
          exact absurd (h2 ▸ h1) (not_le.mpr hcc)
      have hthr : (step lo s).thr = c := by simp only [step, if_pos hc, hcdef]
      have hcum' : (step lo s).cum = (univ.filter fun k => c ≤ l k).card := by
        rw [hsplit, ← hcum]
        simp only [step, ← hcdef, heq]
      refine ⟨fun k => ?_, ?_, ?_, ?_⟩
      · rw [hthr]
        show (if s.rem k = c then lo else s.rem k) = _
        by_cases h1 : s.thr ≤ l k
        · have hr : s.rem k = lo := by rw [hrem k, if_pos h1]
          rw [if_pos (hcc.le.trans h1), hr]; split <;> rfl
        · have hr : s.rem k = l k := by rw [hrem k, if_neg h1]
          by_cases h2 : l k = c
          · rw [if_pos (hr.trans h2), if_pos h2.ge]
          · rw [if_neg (by rw [hr]; exact h2), if_neg (by rw [hbetween]; tauto), hr]
      · rw [hcum', hthr]
      · rw [hcum', hsplit, ← hcum]
        obtain ⟨k₁, hk₁⟩ := exists_rowMax s.rem
        have : 0 < (univ.filter fun k => l k = c).card :=
          Finset.card_pos.mpr ⟨k₁, by simpa using (heq k₁).mp (hk₁.trans hcdef.symm)⟩
        omega
      · rw [hthr]
        have : (univ.filter fun k => c < l k) = univ.filter fun k => s.thr ≤ l k := by
          ext k
          simp only [mem_filter, mem_univ, true_and]
          exact ⟨fun h => ((hbetween k).mp h.le).resolve_right h.ne', fun h => lt_of_lt_of_le hcc h⟩
        rw [this, ← hcum]; exact hc
    · right
      have hthr : (step lo s).thr = s.thr := by simp only [step, if_neg hc]
      refine ⟨?_, ?_, ?_⟩
      · simp only [step]; omega
      · rw [hthr]; exact hgt
      · rw [hthr, ← hcum]; omega
  · right
    have hthr : (step lo s).thr = s.thr := by simp only [step, if_neg (not_lt.mpr h16)]
    refine ⟨?_, ?_, ?_⟩
    · simp only [step]; omega
    · rw [hthr]; exact hgt
    · rw [hthr]; exact hge

theorem inv_iterate (lo : EReal) (l : ι → EReal) (hlo : ∀ k, lo < l k) (hcard : 16 ≤ Fintype.card ι) (n : ℕ) :
    Inv lo l (n + 1) ((step lo)^[n + 1] (start l)) := by
  induction n with
  | zero => exact inv_one lo l
  | succ n ih => rw [Function.iterate_succ_apply']; exact inv_step lo l hlo hcard _ _ ih

/-- After sixteen rounds the threshold is the sixteenth greatest value. -/
theorem threshold (lo : EReal) (l : ι → EReal) (hlo : ∀ k, lo < l k) (hcard : 16 ≤ Fintype.card ι) :
    (univ.filter fun k => ((step lo)^[16] (start l)).thr < l k).card < 16
      ∧ 16 ≤ (univ.filter fun k => ((step lo)^[16] (start l)).thr ≤ l k).card := by
  rcases inv_iterate lo l hlo hcard 15 with ⟨-, hcum, hn, hgt⟩ | ⟨-, hgt, hge⟩
  · exact ⟨hgt, le_of_le_of_eq hn hcum⟩
  · exact ⟨hgt, hge⟩

/-- Entry `k` comes before entry `j`: it is greater, or equal and further left. -/
def Beats {n : ℕ} {α : Type} [LinearOrder α] (l : Fin n → α) (k j : Fin n) : Prop := l j < l k ∨ (l k = l j ∧ k < j)

instance {n : ℕ} {α : Type} [LinearOrder α] (l : Fin n → α) (k j : Fin n) : Decidable (Beats l k j) :=
  inferInstanceAs (Decidable (_ ∨ _))

/-- Entry `j` is among the sixteen first. -/
def Top {n : ℕ} {α : Type} [LinearOrder α] (l : Fin n → α) (j : Fin n) : Prop := (univ.filter fun k => Beats l k j).card < 16

instance {n : ℕ} {α : Type} [LinearOrder α] (l : Fin n → α) (j : Fin n) : Decidable (Top l j) := inferInstanceAs (Decidable (_ < _))

/-- The entries above the sixteenth greatest value `t`, with enough of the entries equal to it from the left. -/
theorem selected_iff {n : ℕ} {α : Type} [LinearOrder α] (l : Fin n → α) (t : α) (hgt : (univ.filter fun k => t < l k).card < 16)
    (hge : 16 ≤ (univ.filter fun k => t ≤ l k).card) (j : Fin n) :
    (t < l j ∨ (l j = t ∧ (univ.filter fun k => l k = t ∧ k < j).card + (univ.filter fun k => t < l k).card < 16)) ↔ Top l j := by
  rcases lt_trichotomy t (l j) with h | h | h
  · refine ⟨fun _ => lt_of_le_of_lt (Finset.card_le_card fun k => ?_) hgt, fun _ => Or.inl h⟩
    intro hk
    refine Finset.mem_filter.mpr ⟨mem_univ k, ?_⟩
    rcases (Finset.mem_filter.mp hk).2 with h1 | ⟨h1, -⟩
    · exact h.trans h1
    · rw [h1]; exact h
  · have : (univ.filter fun k => Beats l k j).card
        = (univ.filter fun k => l k = t ∧ k < j).card + (univ.filter fun k => t < l k).card := by
      rw [← Finset.card_union_of_disjoint]
      · congr 1; ext k
        simp only [mem_filter, mem_univ, true_and, Beats, mem_union, ← h]; tauto
      · rw [Finset.disjoint_left]
        intro k h1 h2
        simp only [mem_filter, mem_univ, true_and] at h1 h2
        exact absurd h1.1 h2.ne'
    unfold Top
    rw [this]
    constructor
    · rintro (h1 | ⟨-, h1⟩)
      · exact absurd h h1.ne
      · exact h1
    · exact fun h1 => Or.inr ⟨h.symm, h1⟩
  · constructor
    · rintro (h1 | ⟨h1, -⟩)
      · exact absurd h h1.asymm
      · exact absurd h1 h.ne
    · intro h1
      exfalso
      refine absurd h1 (not_lt.mpr (hge.trans (Finset.card_le_card fun k => ?_)))
      exact fun h2 => Finset.mem_filter.mpr ⟨mem_univ k, Or.inl (lt_of_lt_of_le h (Finset.mem_filter.mp h2).2)⟩

/-- The comparator of a stable descending sort. -/
def greater {n : ℕ} {α : Type} [LinearOrder α] (l : Fin n → α) (a b : Fin n) : Bool := decide (l b < l a)

theorem pairwise_insert {n : ℕ} {α : Type} [LinearOrder α] (l : Fin n → α) (a : Fin n) (L : List (Fin n))
    (ha : ∀ c ∈ L, a < c) (hL : L.Pairwise (Beats l)) : (insertBefore (greater l) a L).Pairwise (Beats l) := by
  induction L with
  | nil => exact List.pairwise_singleton _ _
  | cons b L ih =>
    rw [List.pairwise_cons] at hL
    unfold insertBefore
    split
    · rename_i h
      have h' : l a < l b := of_decide_eq_true h
      refine List.pairwise_cons.mpr ⟨fun c hc => ?_, ih (fun c hc => ha c (List.mem_cons_of_mem _ hc)) hL.2⟩
      rcases List.mem_cons.mp ((perm_insertBefore _ a L).mem_iff.mp hc) with rfl | hc'
      · exact Or.inl h'
      · exact hL.1 c hc'
    · rename_i h
      have h' : l b ≤ l a := not_lt.mp fun hlt => h (decide_eq_true hlt)
      refine List.pairwise_cons.mpr ⟨fun c hc => ?_, List.pairwise_cons.mpr hL⟩
      have hcb : l c ≤ l b := by
        rcases List.mem_cons.mp hc with rfl | hc'
        · exact le_rfl
        · rcases hL.1 c hc' with h1 | ⟨h1, -⟩
          · exact h1.le
          · exact h1.ge
      rcases lt_or_eq_of_le (hcb.trans h') with h1 | h1
      · exact Or.inl h1
      · exact Or.inr ⟨h1.symm, ha c hc⟩

theorem pairwise_sort {n : ℕ} {α : Type} [LinearOrder α] (l : Fin n → α) (L : List (Fin n)) (hL : L.Pairwise (· < ·)) :
    (stableSort (greater l) L).Pairwise (Beats l) := by
  induction L with
  | nil => exact List.Pairwise.nil
  | cons a L ih =>
    rw [List.pairwise_cons] at hL
    unfold stableSort
    exact pairwise_insert l a _ (fun c hc => hL.1 c ((perm_stableSort _ L).mem_iff.mp hc)) (ih hL.2)

theorem sorted_beats {n : ℕ} {α : Type} [LinearOrder α] (l : Fin n → α) (i j : Fin n) (hij : i < j) :
    Beats l (sortedFrom (greater l) i) (sortedFrom (greater l) j) := by
  have hp := List.pairwise_iff_get.mp (pairwise_sort l (List.finRange n) (List.pairwise_lt_finRange n))
  unfold sortedFrom
  exact hp _ _ hij

theorem top_sorted_iff {n : ℕ} {α : Type} [LinearOrder α] (l : Fin n → α) (i : Fin n) :
    Top l (sortedFrom (greater l) i) ↔ i.val < 16 := by
  have hasym : ∀ a b, Beats l a b → ¬ Beats l b a := by
    rintro a b (h | ⟨h, h'⟩) (g | ⟨g, g'⟩)
    · exact absurd h g.asymm
    · exact absurd g h.ne
    · exact absurd h g.ne
    · exact absurd h' g'.asymm
  have : (univ.filter fun k => Beats l k (sortedFrom (greater l) i))
      = (univ.filter fun p : Fin n => p < i).image (sortedFrom (greater l)) := by
    ext k
    obtain ⟨p, rfl⟩ := sortedFrom_surjective (greater l) k
    simp only [mem_filter, mem_univ, true_and, mem_image]
    constructor
    · intro h
      refine ⟨p, ?_, rfl⟩
      rcases lt_trichotomy p i with h1 | h1 | h1
      · exact h1
      · subst h1; exact absurd h (hasym _ _ h)
      · exact absurd (sorted_beats l i p h1) (hasym _ _ h)
    · rintro ⟨q, hq, hqp⟩
      rw [← hqp]; exact sorted_beats l q i hq
  unfold Top
  rw [this, Finset.card_image_of_injective _ (sortedFrom_injective _)]
  have hc : (univ.filter fun p : Fin n => p < i).card = i.val := by
    rw [show (univ.filter fun p : Fin n => p < i) = Finset.Iio i by ext p; simp, Fin.card_Iio]
  rw [hc]

/-- A sum over the first sixteen positions of the stable descending sort is the sum over the entries among the
    sixteen first. -/
theorem sum_sorted {n : ℕ} {α : Type} [LinearOrder α] (l : Fin n → α) (hn : 16 ≤ n) {M : Type} [AddCommMonoid M] (g : Fin n → M) :
    ∑ p : Fin 16, g (sortedFrom (greater l) (p.castLE hn)) = ∑ j : Fin n, if Top l j then g j else 0 := by
  have hb : Function.Bijective (sortedFrom (greater l)) := ⟨sortedFrom_injective (greater l), sortedFrom_surjective (greater l)⟩
  rw [← hb.sum_comp fun j => if Top l j then g j else 0]
  simp only [top_sorted_iff]
  rw [← Finset.sum_filter]
  symm
  refine Finset.sum_bij' (fun i hi => (⟨i.val, by simpa using hi⟩ : Fin 16)) (fun p _ => p.castLE hn) ?_ ?_ ?_ ?_ ?_
  · intros; exact mem_univ _
  · intro p _; simp
  · intros; rfl
  · intros; rfl
  · intros; rfl

end Cert.TopRow

end
-- ==== Proof.Spec.lean ====
/-
  What one batch element's graph network computes, over the reals up to the second convolution's linear maps: the graph learner's logits, the polar coordinates
  of the objects, the Gaussian edge weights, the softmax over a row's sixteen greatest logits, the two graph
  convolutions. With them the facts that carry extended-real terms of real entries over to the reals.
-/
module

public import proofs.«01_k».proof.Proof.TopRow
public import Idealize.ShloMosaic.PureOps.Ideal.Laws

@[expose] public section

noncomputable section

namespace Cert.Net

open Finset Idealize.ShloMosaic

/-! ### Real entries as extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem coe_abs (a : ℝ) : ((|a| : ℝ) : EReal) = max (a : EReal) (-(a : EReal)) := by
  rw [abs_eq_max_neg, coe_max, EReal.coe_neg]

theorem coe_div {a b : ℝ} (hb : b ≠ 0) : ((a / b : ℝ) : EReal) = Ideal.div a b := by
  rw [Ideal.div_coe hb, div_eq_mul_one_div, EReal.coe_mul]

theorem coe_exp (a : ℝ) : ((Real.exp a : ℝ) : EReal) = Ideal.exp a := rfl

theorem exp_bot : Ideal.exp ⊥ = 0 := rfl

theorem coe_sqrt {a : ℝ} (ha : 0 ≤ a) : ((Real.sqrt a : ℝ) : EReal) = Ideal.sqrt a := by
  show _ = if a < 0 then ⊥ else (Real.sqrt a : EReal)
  rw [if_neg (not_lt.mpr ha)]

/-- The angle of the point with ordinate `y` and abscissa `x`. -/
def angle (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

theorem coe_angle (y x : ℝ) : ((angle y x : ℝ) : EReal) = Ideal.atan2 y x := rfl

/-! ### The literals -/

/-- The small number added to every divisor. -/
def eps : ℝ := 11805916 / 1180591620717411303424

/-- The rounded full turn. -/
def turn : ℝ := 13176795 / 2097152

theorem eps_pos : 0 < eps := by unfold eps; norm_num

theorem lit_eps : Ideal.ofBits .f32 0x283424DC#32 = (eps : EReal) := by
  simp [Ideal.ofBits, Ideal.ieee, eps, -EReal.coe_mul]; norm_num

theorem lit_turn : Ideal.ofBits .f32 0x40C90FDB#32 = (turn : EReal) := by
  simp [Ideal.ofBits, Ideal.ieee, turn, -EReal.coe_mul]; norm_num

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_sixteen : Ideal.ofBits .f32 0x41800000#32 = ((16 : ℝ) : EReal) := by
  simp [Ideal.ofBits, Ideal.ieee, -EReal.coe_mul]; norm_num

theorem lit_zero : Ideal.ofBits .f32 0x00000000#32 = ((0 : ℝ) : EReal) := by
  simp [Ideal.ofBits, Ideal.ieee, -EReal.coe_mul]

theorem lit_bot : Ideal.ofBits .f32 0xFF800000#32 = ⊥ := by
  simp [Ideal.ofBits, Ideal.ieee]

theorem lit_top : Ideal.ofBits .f32 0x7F800000#32 = ⊤ := by
  simp [Ideal.ofBits, Ideal.ieee]

/-- What the kernel writes over an entry it has met. -/
def low : EReal := Ideal.ofBits .f32 0xFF61B1E6#32

theorem low_neg : low < 0 := by
  unfold low
  simp [Ideal.ofBits, Ideal.ieee, -EReal.coe_mul]

/-! ### The network -/

/-- One batch element's inputs, and the weights. The Gaussians' means and widths and the
second convolution's linear maps are not taken to be finite. -/
structure In where
  v : Fin 100 → Fin 2048 → ℝ
  b : Fin 100 → Fin 4 → ℝ
  q : Fin 1024 → ℝ
  w1 : Fin 3076 → Fin 512 → ℝ
  b1 : Fin 512 → ℝ
  w2 : Fin 512 → Fin 512 → ℝ
  b2 : Fin 512 → ℝ
  c1 : Fin 8 → Fin 2052 → Fin 256 → ℝ
  mr1 : Fin 8 → EReal
  mt1 : Fin 8 → EReal
  pr1 : Fin 8 → EReal
  pt1 : Fin 8 → EReal
  c2 : Fin 8 → Fin 2048 → Fin 128 → EReal
  mr2 : Fin 8 → EReal
  mt2 : Fin 8 → EReal
  pr2 : Fin 8 → EReal
  pt2 : Fin 8 → EReal

variable (p : In)

/-- An object's features and its box side by side. -/
def vb (i : Fin 100) (d : Fin 2052) : ℝ := if h : d.val < 2048 then p.v i ⟨d.val, h⟩ else p.b i ⟨d.val - 2048, by omega⟩

/-- The same with the question's features. -/
def feat (i : Fin 100) (d : Fin 3076) : ℝ :=
  if h : d.val < 2052 then vb p i ⟨d.val, h⟩ else p.q ⟨d.val - 2052, by omega⟩

def hid1 (i : Fin 100) (k : Fin 512) : ℝ := max ((∑ d, feat p i d * p.w1 d k) + p.b1 k) 0

def hid2 (i : Fin 100) (k : Fin 512) : ℝ := max ((∑ d, hid1 p i d * p.w2 d k) + p.b2 k) 0

/-- The graph learner's logits. -/
def logit (i j : Fin 100) : ℝ := ∑ k, hid2 p i k * hid2 p j k

/-- A box's centre. -/
def cen (i : Fin 100) (a : Fin 2) : ℝ := (p.b i ⟨2 + a.val, by omega⟩ + p.b i ⟨a.val, by omega⟩) * (1 / 2)

def diff (a : Fin 2) (i j : Fin 100) : ℝ := cen p i a - cen p j a

/-- The distance of two centres. -/
def rho (i j : Fin 100) : ℝ :=
  if i = j then 0 else Real.sqrt (diff p 0 i j * diff p 0 i j + diff p 1 i j * diff p 1 i j)

/-- The direction from one centre to the other. -/
def theta (i j : Fin 100) : ℝ := if i = j then 0 else angle (diff p 0 i j) (diff p 1 i j)

/-- How far an angle is from another, the short way round. -/
def apart (t : ℝ) (m : EReal) : EReal :=
  min (max ((t : EReal) - m) (-((t : EReal) - m)))
    (max ((turn : EReal) - max ((t : EReal) - m) (-((t : EReal) - m))) (-((turn : EReal) - max ((t : EReal) - m) (-((t : EReal) - m)))))

/-- Half the reciprocal of a squared width. -/
def narrow (x : EReal) : EReal := Ideal.div ((1 / 2 : ℝ) : EReal) ((eps : EReal) + x * x)

/-- The exponent of a Gaussian in the distance and the angle; the means and the widths may be infinite. -/
def power (r t : ℝ) (mr mt pr pt : EReal) : EReal :=
  (0 - ((r : EReal) - mr) * ((r : EReal) - mr)) * narrow pr - apart t mt * apart t mt * narrow pt

/-- The Gaussian, a real number whatever the means and the widths. -/
def gauss (r t : ℝ) (mr mt pr pt : EReal) : ℝ := (Ideal.exp (power r t mr mt pr pt)).toReal

def w1 (f : Fin 8) (i j : Fin 100) : ℝ := gauss (rho p i j) (theta p i j) (p.mr1 f) (p.mt1 f) (p.pr1 f) (p.pt1 f)

def w2 (f : Fin 8) (i j : Fin 100) : ℝ := gauss (rho p i j) (theta p i j) (p.mr2 f) (p.mt2 f) (p.pr2 f) (p.pt2 f)

/-- The weights of an edge divided by their sum. -/
def normed (w : Fin 8 → Fin 100 → Fin 100 → ℝ) (f : Fin 8) (i j : Fin 100) : ℝ := w f i j / ((∑ g, w g i j) + eps)

/-- The sum of a row's exponentials over its sixteen greatest logits. -/
def mass (i : Fin 100) : ℝ := ∑ j, if TopRow.Top (logit p i) j then Real.exp (logit p i j) else 0

/-- The softmax over a row's sixteen greatest logits. -/
def adj (i j : Fin 100) : ℝ := if TopRow.Top (logit p i) j then Real.exp (logit p i j) / mass p i else 0

/-- A graph convolution: neighbours gathered with an edge's weight, then a linear map for each weight. -/
def conv {n m : ℕ} (w : Fin 8 → Fin 100 → Fin 100 → ℝ) (x : Fin 100 → Fin n → ℝ) (c : Fin 8 → Fin n → Fin m → ℝ)
    (f : Fin 8) (i : Fin 100) (o : Fin m) : ℝ :=
  max (∑ d, (∑ j, normed w f i j * adj p i j * x j d) * c f d o) 0

def layer1 (i : Fin 100) (k : Fin 2048) : ℝ := conv p (w1 p) (vb p) p.c1 ⟨k.val / 256, by omega⟩ i ⟨k.val % 256, by omega⟩

/-- The second convolution, whose linear maps may have infinite entries. -/
def second (f : Fin 8) (i : Fin 100) (o : Fin 128) : EReal :=
  max (∑ d, ((∑ j, normed (w2 p) f i j * adj p i j * layer1 p j d : ℝ) : EReal) * p.c2 f d o) 0

def layer2 (i : Fin 100) (k : Fin 1024) : EReal := second p ⟨k.val / 128, by omega⟩ i ⟨k.val % 128, by omega⟩

/-- The greatest over the objects. -/
def pooled (k : Fin 1024) : EReal := univ.fold max ⊥ fun i : Fin 100 => layer2 p i k

/-! ### Facts about it -/

theorem logit_nonneg (i j : Fin 100) : 0 ≤ logit p i j :=
  Finset.sum_nonneg fun _ _ => mul_nonneg (le_max_right _ _) (le_max_right _ _)

theorem square_nonneg (x : EReal) : 0 ≤ x * x := by
  induction x with
  | bot => simp
  | top => simp
  | coe r => rw [← EReal.coe_mul]; exact_mod_cast mul_self_nonneg r

theorem width_pos (x : EReal) : 0 < (eps : EReal) + x * x :=
  lt_of_lt_of_le (by exact_mod_cast eps_pos) (le_add_of_nonneg_right (square_nonneg x))

/-- Division by a squared width is multiplication by its inverse. -/
theorem div_width (a x : EReal) : Ideal.div a ((eps : EReal) + x * x) = a * ((eps : EReal) + x * x)⁻¹ :=
  if_neg (width_pos x).ne'

theorem narrow_nonneg (x : EReal) : 0 ≤ narrow x := by
  unfold narrow
  rw [div_width]
  exact mul_nonneg (by exact_mod_cast (by norm_num : (0 : ℝ) ≤ 1 / 2)) (EReal.inv_nonneg_of_nonneg (width_pos x).le)

theorem falling (d x : EReal) : (0 - d * d) * narrow x ≤ 0 := by
  rw [zero_sub, EReal.neg_mul]
  simpa using mul_nonneg (square_nonneg d) (narrow_nonneg x)

/-- A Gaussian with its two exponents apart. -/
theorem power_eq (r t : ℝ) (mr mt pr pt : EReal) : power r t mr mt pr pt =
    (0 - ((r : EReal) - mr) * ((r : EReal) - mr)) * narrow pr + (0 - apart t mt * apart t mt) * narrow pt := by
  unfold power
  rw [sub_eq_add_neg, zero_sub (apart t mt * apart t mt), EReal.neg_mul]

/-- The exponential of an exponent that is not positive is a real number that is not negative. -/
theorem exp_real {a : EReal} (h : a ≤ 0) : Ideal.exp a = ((Ideal.exp a).toReal : EReal) ∧ 0 ≤ (Ideal.exp a).toReal := by
  induction a with
  | bot => exact ⟨by rw [exp_bot, EReal.toReal_zero, EReal.coe_zero], by rw [exp_bot, EReal.toReal_zero]⟩
  | top => simp at h
  | coe r => exact ⟨rfl, (Real.exp_pos r).le⟩

/-- The exponential of a sum of two such exponents. -/
theorem exp_sum {a b : EReal} (ha : a ≤ 0) (hb : b ≤ 0) : Ideal.exp a * Ideal.exp b = Ideal.exp (a + b) := by
  induction a with
  | bot => rw [EReal.bot_add, exp_bot, zero_mul]
  | top => simp at ha
  | coe r =>
    induction b with
    | bot => rw [EReal.add_bot, exp_bot, mul_zero]
    | top => simp at hb
    | coe s => rw [← EReal.coe_add, ← coe_exp, ← coe_exp, ← coe_exp, ← EReal.coe_mul, Real.exp_add]

theorem power_nonpos (r t : ℝ) (mr mt pr pt : EReal) : power r t mr mt pr pt ≤ 0 := by
  rw [power_eq, ← add_zero (0 : EReal)]
  exact add_le_add (by rw [add_zero]; exact falling _ _) (by rw [add_zero]; exact falling _ _)

theorem gauss_eq (r t : ℝ) (mr mt pr pt : EReal) : Ideal.exp (power r t mr mt pr pt) = (gauss r t mr mt pr pt : EReal) :=
  (exp_real (power_nonpos r t mr mt pr pt)).1

theorem w_nonneg (r t : ℝ) (mr mt pr pt : EReal) : 0 ≤ gauss r t mr mt pr pt := (exp_real (power_nonpos r t mr mt pr pt)).2

theorem total_pos (w : Fin 8 → ℝ) (h : ∀ f, 0 ≤ w f) : 0 < (∑ f, w f) + eps :=
  add_pos_of_nonneg_of_pos (Finset.sum_nonneg fun f _ => h f) eps_pos

theorem exists_top (i : Fin 100) : ∃ j, TopRow.Top (logit p i) j :=
  ⟨sortedFrom (TopRow.greater (logit p i)) 0, (TopRow.top_sorted_iff _ _).mpr (by norm_num)⟩

theorem mass_pos (i : Fin 100) : 0 < mass p i := by
  obtain ⟨j, hj⟩ := exists_top p i
  refine Finset.sum_pos' (fun j _ => ?_) ⟨j, mem_univ j, ?_⟩
  · split
    · exact (Real.exp_pos _).le
    · exact le_rfl
  · rw [if_pos hj]; exact Real.exp_pos _

/-- The softmax may subtract any number first. -/
theorem adj_shift (m : ℝ) (i j : Fin 100) :
    adj p i j = (if TopRow.Top (logit p i) j then Real.exp (logit p i j - m) else 0)
      / ∑ j', if TopRow.Top (logit p i) j' then Real.exp (logit p i j' - m) else 0 := by
  have hs : (∑ j', if TopRow.Top (logit p i) j' then Real.exp (logit p i j' - m) else 0) = mass p i * Real.exp (-m) := by
    unfold mass
    rw [Finset.sum_mul]
    refine Finset.sum_congr rfl fun j' _ => ?_
    split
    · rw [← Real.exp_add, sub_eq_add_neg]
    · rw [zero_mul]
  rw [hs]
  unfold adj
  split
  · rw [sub_eq_add_neg, Real.exp_add, mul_div_mul_right _ _ (Real.exp_pos _).ne']
  · rw [zero_div]

theorem shifted_pos (m : ℝ) (i : Fin 100) : 0 < ∑ j', if TopRow.Top (logit p i) j' then Real.exp (logit p i j' - m) else 0 := by
  obtain ⟨j, hj⟩ := exists_top p i
  refine Finset.sum_pos' (fun j _ => ?_) ⟨j, mem_univ j, ?_⟩
  · split
    · exact (Real.exp_pos _).le
    · exact le_rfl
  · rw [if_pos hj]; exact Real.exp_pos _

/-- A convolution with the linear map taken before the neighbours are gathered. -/
theorem conv_eq {n m : ℕ} (w : Fin 8 → Fin 100 → Fin 100 → ℝ) (x : Fin 100 → Fin n → ℝ) (c : Fin 8 → Fin n → Fin m → ℝ)
    (f : Fin 8) (i : Fin 100) (o : Fin m) :
    conv p w x c f i o = max (∑ j, w f i j * (adj p i j / ((∑ g, w g i j) + eps)) * ∑ d, x j d * c f d o) 0 := by
  unfold conv normed
  congr 1
  simp only [Finset.sum_mul, Finset.mul_sum]
  rw [Finset.sum_comm]
  refine Finset.sum_congr rfl fun j _ => Finset.sum_congr rfl fun d _ => ?_
  ring

theorem adj_nonneg (i j : Fin 100) : 0 ≤ adj p i j := by
  unfold adj
  split
  · exact div_nonneg (Real.exp_pos _).le (mass_pos p i).le
  · exact le_rfl

theorem layer1_nonneg (i : Fin 100) (k : Fin 2048) : 0 ≤ layer1 p i k := le_max_right _ _

/-- A real number that is not negative distributes over a sum with infinite entries. -/
theorem mul_sum_nonneg {ι : Type} (s : Finset ι) {a : ℝ} (ha : 0 ≤ a) (g : ι → EReal) : (a : EReal) * ∑ i ∈ s, g i = ∑ i ∈ s, (a : EReal) * g i := by
  classical
  induction s using Finset.induction_on with
  | empty => simp
  | insert b s hb ih =>
    rw [Finset.sum_insert hb, Finset.sum_insert hb, EReal.left_distrib_of_nonneg_of_ne_top (by exact_mod_cast ha) (EReal.coe_ne_top a), ih]

/-- A number, infinite perhaps, distributes over a sum of real numbers none of which is negative. -/
theorem sum_mul_nonneg {ι : Type} (s : Finset ι) {g : ι → ℝ} (hg : ∀ i, 0 ≤ g i) (c : EReal) :
    ((∑ i ∈ s, g i : ℝ) : EReal) * c = ∑ i ∈ s, (g i : EReal) * c := by
  classical
  induction s using Finset.induction_on with
  | empty => simp
  | insert b s hb ih =>
    rw [Finset.sum_insert hb, Finset.sum_insert hb, EReal.coe_add,
      EReal.right_distrib_of_nonneg (by exact_mod_cast hg b) (by exact_mod_cast Finset.sum_nonneg fun i _ => hg i), ih]

/-- The second convolution with the linear map taken before the neighbours are gathered: no weight and no feature is negative. -/
theorem second_eq (f : Fin 8) (i : Fin 100) (o : Fin 128) :
    second p f i o = max (∑ j, ((w2 p f i j * (adj p i j / ((∑ g, w2 p g i j) + eps)) : ℝ) : EReal)
      * ∑ d, (layer1 p j d : EReal) * p.c2 f d o) 0 := by
  have hw (g : Fin 8) (j : Fin 100) : 0 ≤ w2 p g i j := w_nonneg _ _ _ _ _ _
  have ht (j : Fin 100) : 0 < (∑ g, w2 p g i j) + eps := total_pos (fun g => w2 p g i j) fun g => hw g j
  have hn (j : Fin 100) (d : Fin 2048) : 0 ≤ normed (w2 p) f i j * adj p i j * layer1 p j d :=
    mul_nonneg (mul_nonneg (div_nonneg (hw f j) (ht j).le) (adj_nonneg p i j)) (layer1_nonneg p j d)
  unfold second
  congr 1
  rw [Finset.sum_congr rfl fun d _ => sum_mul_nonneg univ (fun j => hn j d) (p.c2 f d o), Finset.sum_comm]
  refine Finset.sum_congr rfl fun j _ => ?_
  rw [mul_sum_nonneg univ (mul_nonneg (hw f j) (div_nonneg (adj_nonneg p i j) (ht j).le))]
  refine Finset.sum_congr rfl fun d _ => ?_
  rw [← mul_assoc, ← EReal.coe_mul]
  congr 2
  unfold normed
  ring

theorem sum_parts {M : Type} [AddCommMonoid M] {n : ℕ} (a b : ℕ) (h : n = a + b) (g : Fin n → M) :
    ∑ d, g d = (∑ d : Fin a, g ⟨d.val, by omega⟩) + ∑ d : Fin b, g ⟨a + d.val, by omega⟩ := by
  subst h
  exact Fin.sum_univ_add g

/-- A sum over features and box is the sum over the features plus the sum over the box. -/
theorem sum_vb {M : Type} [AddCommMonoid M] (g : Fin 2052 → M) :
    ∑ d, g d = (∑ d : Fin 2048, g ⟨d.val, by omega⟩) + ∑ d : Fin 4, g ⟨2048 + d.val, by omega⟩ :=
  sum_parts 2048 4 rfl g

/-- And one over all three. -/
theorem sum_feat {M : Type} [AddCommMonoid M] (g : Fin 3076 → M) :
    ∑ d, g d = (∑ d : Fin 2048, g ⟨d.val, by omega⟩) + (∑ d : Fin 4, g ⟨2048 + d.val, by omega⟩)
      + ∑ d : Fin 1024, g ⟨2052 + d.val, by omega⟩ := by
  rw [sum_parts 2052 1024 rfl g, sum_vb fun d : Fin 2052 => g ⟨d.val, by omega⟩]

theorem vb_left (i : Fin 100) (d : Fin 2048) : vb p i ⟨d.val, by omega⟩ = p.v i d := by
  unfold vb; rw [dif_pos d.isLt]

theorem vb_right (i : Fin 100) (d : Fin 4) : vb p i ⟨2048 + d.val, by omega⟩ = p.b i d := by
  unfold vb
  rw [dif_neg (by show ¬ 2048 + d.val < 2048; omega)]
  exact congrArg (p.b i) (Fin.ext (Nat.add_sub_cancel_left (n := 2048) (m := d.val)))

theorem feat_v (i : Fin 100) (d : Fin 2048) : feat p i ⟨d.val, by omega⟩ = p.v i d := by
  unfold feat; rw [dif_pos (by show d.val < 2052; omega)]; exact vb_left p i d

theorem feat_b (i : Fin 100) (d : Fin 4) : feat p i ⟨2048 + d.val, by omega⟩ = p.b i d := by
  unfold feat; rw [dif_pos (by show 2048 + d.val < 2052; omega)]; exact vb_right p i d

theorem feat_q (i : Fin 100) (d : Fin 1024) : feat p i ⟨2052 + d.val, by omega⟩ = p.q d := by
  unfold feat
  rw [dif_neg (by show ¬ 2052 + d.val < 2052; omega)]
  exact congrArg p.q (Fin.ext (Nat.add_sub_cancel_left (n := 2052) (m := d.val)))

theorem sum_feat_mul (i : Fin 100) (k : Fin 512) :
    (∑ d, feat p i d * p.w1 d k) = (∑ d : Fin 2048, p.v i d * p.w1 ⟨d.val, by omega⟩ k)
      + (∑ d : Fin 4, p.b i d * p.w1 ⟨2048 + d.val, by omega⟩ k) + ∑ d : Fin 1024, p.q d * p.w1 ⟨2052 + d.val, by omega⟩ k := by
  rw [sum_feat]
  simp only [feat_v, feat_b, feat_q]

theorem sum_vb_mul {m : ℕ} (c : Fin 2052 → Fin m → ℝ) (i : Fin 100) (o : Fin m) :
    (∑ d, vb p i d * c d o) = (∑ d : Fin 2048, p.v i d * c ⟨d.val, by omega⟩ o)
      + ∑ d : Fin 4, p.b i d * c ⟨2048 + d.val, by omega⟩ o := by
  rw [sum_vb]
  simp only [vb_left, vb_right]

end Cert.Net

end
-- ==== Proof.Weights.lean ====
/-
  The fused kernel's values up to the edge weights: from blocks that hold one batch element's inputs, the logits,
  the distances and directions, the sixteen Gaussian weights and their two sums are the network's.
-/
module

public import proofs.«01_k».proof.Proof.Spec
public import proofs.«01_k».proof.Proof.Gen.KernelIdeal.Frame
public import Idealize.ShloMosaic.Lib.Pointwise

@[expose] public section

noncomputable section

namespace Cert.Net

open Finset Idealize.ShloMosaic Cert.KernelIdeal Cert.KernelIdeal.Gen

/-- The fused kernel's sixteen input blocks. -/
structure Blk where
  x0 : Vec Ideal S1x100x2048 .f32
  x1 : Vec Ideal S1x100x4 .f32
  x2 : Vec Ideal S1x1x1024 .f32
  x3 : Vec Ideal S1x100x2 .f32
  x4 : Vec Ideal S1x2x100 .f32
  x5 : Vec Ideal S2048x512 .f32
  x6 : Vec Ideal S4x512 .f32
  x7 : Vec Ideal S1024x512 .f32
  x8 : Vec Ideal S512 .f32
  x9 : Vec Ideal S512x512 .f32
  x10 : Vec Ideal S512 .f32
  x11 : Vec Ideal S4x8x1 .f32
  x12 : Vec Ideal S4x8x1 .f32
  x13 : Vec Ideal S8x2048x256 .bf16
  x14 : Vec Ideal S8x4x256 .bf16
  x15 : Vec Ideal S8x2048x128 .bf16

/-- A value stated of the sixteen blocks, at these. -/
abbrev Blk.ap (B : Blk) {α : Type} (f : Vec Ideal S1x100x2048 .f32 → Vec Ideal S1x100x4 .f32 → Vec Ideal S1x1x1024 .f32 → Vec Ideal S1x100x2 .f32 → Vec Ideal S1x2x100 .f32 → Vec Ideal S2048x512 .f32 → Vec Ideal S4x512 .f32 → Vec Ideal S1024x512 .f32 → Vec Ideal S512 .f32 → Vec Ideal S512x512 .f32 → Vec Ideal S512 .f32 → Vec Ideal S4x8x1 .f32 → Vec Ideal S4x8x1 .f32 → Vec Ideal S8x2048x256 .bf16 → Vec Ideal S8x4x256 .bf16 → Vec Ideal S8x2048x128 .bf16 → α) : α :=
  f B.x0 B.x1 B.x2 B.x3 B.x4 B.x5 B.x6 B.x7 B.x8 B.x9 B.x10 B.x11 B.x12 B.x13 B.x14 B.x15

/-- The blocks hold the inputs `p`. -/
structure Holds (p : In) (B : Blk) : Prop where
  v : ∀ i d, B.x0 (ix3 0 i d) = (p.v i d : EReal)
  b : ∀ i d, B.x1 (ix3 0 i d) = (p.b i d : EReal)
  q : ∀ d, B.x2 (ix3 0 0 d) = (p.q d : EReal)
  cenr : ∀ i a, B.x3 (ix3 0 i a) = (cen p i a : EReal)
  cenc : ∀ i a, B.x4 (ix3 0 a i) = (cen p i a : EReal)
  w1v : ∀ (d : Fin 2048) k, B.x5 (ix2 d k) = (p.w1 ⟨d.val, by omega⟩ k : EReal)
  w1b : ∀ (d : Fin 4) k, B.x6 (ix2 d k) = (p.w1 ⟨2048 + d.val, by omega⟩ k : EReal)
  w1q : ∀ (d : Fin 1024) k, B.x7 (ix2 d k) = (p.w1 ⟨2052 + d.val, by omega⟩ k : EReal)
  b1 : ∀ k, B.x8 (ix1 k) = (p.b1 k : EReal)
  w2 : ∀ d k, B.x9 (ix2 d k) = (p.w2 d k : EReal)
  b2 : ∀ k, B.x10 (ix1 k) = (p.b2 k : EReal)
  mr1 : ∀ f, B.x11 (ix3 0 f 0) = p.mr1 f
  mt1 : ∀ f, B.x11 (ix3 1 f 0) = p.mt1 f
  pr1 : ∀ f, B.x11 (ix3 2 f 0) = narrow (p.pr1 f)
  pt1 : ∀ f, B.x11 (ix3 3 f 0) = narrow (p.pt1 f)
  mr2 : ∀ f, B.x12 (ix3 0 f 0) = p.mr2 f
  mt2 : ∀ f, B.x12 (ix3 1 f 0) = p.mt2 f
  pr2 : ∀ f, B.x12 (ix3 2 f 0) = narrow (p.pr2 f)
  pt2 : ∀ f, B.x12 (ix3 3 f 0) = narrow (p.pt2 f)
  c1v : ∀ f (d : Fin 2048) o, B.x13 (ix3 f d o) = (p.c1 f ⟨d.val, by omega⟩ o : EReal)
  c1b : ∀ f (d : Fin 4) o, B.x14 (ix3 f d o) = (p.c1 f ⟨2048 + d.val, by omega⟩ o : EReal)
  c2 : ∀ f d o, B.x15 (ix3 f d o) = p.c2 f d o

/-- A square array of reals as the kernel's arrays of one batch element. -/
def sq (f : Fin 100 → Fin 100 → ℝ) : FVec Ideal S1x100x100 .f32 := fun y => (f (y 1) (y 2) : EReal)

theorem sq_apply (f : Fin 100 → Fin 100 → ℝ) (i j : Fin 100) : sq f (ix3 0 i j) = (f i j : EReal) := rfl

theorem eq_sq {x : FVec Ideal S1x100x100 .f32} {f : Fin 100 → Fin 100 → ℝ} (h : ∀ i j, x (ix3 0 i j) = (f i j : EReal)) :
    x = sq f := by
  funext y
  have hy : y = ix3 (y 0) (y 1) (y 2) := by funext d; match d with | ⟨0, _⟩ => rfl | ⟨1, _⟩ => rfl | ⟨2, _⟩ => rfl
  have h0 : y = ix3 0 (y 1) (y 2) := hy.trans (congrArg (fun a : Fin 1 => ix3 a (y 1) (y 2)) (Subsingleton.elim (α := Fin 1) _ _))
  rw [h0]
  exact h _ _

theorem absf_coe (a : ℝ) : FloatOps.absf (F := Ideal) (φ := .f32) (a : EReal) = ((|a| : ℝ) : EReal) := (coe_abs a).symm

theorem cmpi_eq_ofNat (i j : Fin 100) :
    IntOp.cmpi .eq (BitVec.ofNat 32 i.val) (BitVec.ofNat 32 j.val) = if i = j then 1#1 else 0#1 := by
  revert i j; decide +kernel

theorem select_diag {α : Type} (i j : Fin 100) (a b : α) :
    Scalar.select (IntOp.cmpi .eq (BitVec.ofNat 32 i.val) (BitVec.ofNat 32 j.val)) a b = if i = j then a else b := by
  rw [cmpi_eq_ofNat]
  by_cases h : i = j <;> simp [Scalar.select, h]

/-- The kernel's Gaussian. -/
theorem gauss_coe (r t : ℝ) (mr mt pr pt : EReal) :
    Ideal.exp ((0 - ((r : EReal) - mr) * ((r : EReal) - mr)) * narrow pr
        - min (FloatOps.absf (F := Ideal) (φ := .f32) ((t : EReal) - mt))
              (FloatOps.absf (F := Ideal) (φ := .f32) (Ideal.ofBits .f32 0x40C90FDB#32 - FloatOps.absf (F := Ideal) (φ := .f32) ((t : EReal) - mt)))
          * min (FloatOps.absf (F := Ideal) (φ := .f32) ((t : EReal) - mt))
              (FloatOps.absf (F := Ideal) (φ := .f32) (Ideal.ofBits .f32 0x40C90FDB#32 - FloatOps.absf (F := Ideal) (φ := .f32) ((t : EReal) - mt)))
          * narrow pt)
      = (gauss r t mr mt pr pt : EReal) := by
  rw [lit_turn, ← gauss_eq]
  rfl

variable {p : In} {B : Blk}

theorem logits_eq (h : Holds p B) : B.ap k0_pay175 = sq (logit p) := by
  refine eq_sq fun i j => ?_
  have h1 : ∀ i k, max (∑ x, B.x0 (ix3 0 i x) * B.x5 (ix2 x k) + ∑ x, B.x1 (ix3 0 i x) * B.x6 (ix2 x k)
      + ∑ x, B.x2 (ix3 0 0 x) * B.x7 (ix2 x k) + B.x8 (ix1 k)) 0 = (hid1 p i k : EReal) := fun i k => by
    simp only [h.v, h.b, h.q, h.w1v, h.w1b, h.w1q, h.b1, ← EReal.coe_mul, ← coe_sum, ← EReal.coe_add]
    rw [← EReal.coe_zero, ← coe_max, ← sum_feat_mul]
    rfl
  have h2 : ∀ i k, max (∑ x, (hid1 p i x : EReal) * B.x9 (ix2 x k) + B.x10 (ix1 k)) 0 = (hid2 p i k : EReal) := fun i k => by
    simp only [h.w2, h.b2, ← EReal.coe_mul, ← coe_sum, ← EReal.coe_add]
    rw [← EReal.coe_zero, ← coe_max]
    rfl
  pointwise [k0_pay175, k0_pay4, k0_pay3]
  simp only [h1, h2, ← EReal.coe_mul, ← coe_sum]
  rfl

theorem rho_eq (h : Holds p B) : k0_pay10 (View.ld B.x3 r0_8) (View.ld B.x4 r0_9) = sq (rho p) := by
  refine eq_sq fun i j => ?_
  pointwise [k0_pay10, k0_pay7, k0_pay8, k0_pay5, k0_pay6, k0_pay9]
  simp only [select_diag, h.cenr, h.cenc, ← EReal.coe_sub, ← EReal.coe_mul, ← EReal.coe_add]
  rw [← coe_sqrt (add_nonneg (mul_self_nonneg _) (mul_self_nonneg _)), ← EReal.coe_zero]
  unfold rho diff
  split <;> rfl

theorem theta_eq (h : Holds p B) : k0_pay11 (View.ld B.x3 r0_8) (View.ld B.x4 r0_9) = sq (theta p) := by
  refine eq_sq fun i j => ?_
  pointwise [k0_pay11, k0_pay7, k0_pay8, k0_pay5, k0_pay6, k0_pay9]
  simp only [select_diag, h.cenr, h.cenc, ← EReal.coe_sub, ← coe_angle]
  rw [← EReal.coe_zero]
  unfold theta diff
  split <;> rfl

theorem rho_eq' (h : Holds p B) : B.ap k0_pay176 = sq (rho p) := rho_eq h

theorem theta_eq' (h : Holds p B) : B.ap k0_pay177 = sq (theta p) := theta_eq h

/-! ### The edge weights, one filter at a time -/

theorem weights1 (h : Holds p B) :
    k0_pay16 (B.ap k0_pay178) (B.ap k0_pay179) (B.ap k0_pay180) (View.ld B.x11 r0_12) (View.ld B.x11 r0_13) = sq (w1 p 0)
    ∧ B.ap k0_pay181 = sq (w1 p 1)
    ∧ k0_pay19 (B.ap k0_pay176) (B.ap k0_pay177) (View.ld B.x11 r0_18) (View.ld B.x11 r0_19) (View.ld B.x11 r0_20) (View.ld B.x11 r0_21) = sq (w1 p 2)
    ∧ k0_pay24 (B.ap k0_pay182) (B.ap k0_pay183) (B.ap k0_pay184) (View.ld B.x11 r0_24) (View.ld B.x11 r0_25) = sq (w1 p 3)
    ∧ k0_pay28 (B.ap k0_pay185) (B.ap k0_pay186) (View.ld B.x11 r0_29) = sq (w1 p 4)
    ∧ k0_pay29 (B.ap k0_pay176) (B.ap k0_pay177) (View.ld B.x11 r0_30) (View.ld B.x11 r0_31) (View.ld B.x11 r0_32) (View.ld B.x11 r0_33) = sq (w1 p 5)
    ∧ k0_pay32 (B.ap k0_pay177) (B.ap k0_pay187) (View.ld B.x11 r0_35) (View.ld B.x11 r0_36) (View.ld B.x11 r0_37) = sq (w1 p 6)
    ∧ k0_pay37 (B.ap k0_pay188) (B.ap k0_pay189) (k0_pay36 (View.ld B.x11 r0_40)) (View.ld B.x11 r0_41) = sq (w1 p 7) := by
  refine ⟨eq_sq fun i j => ?_, eq_sq fun i j => ?_, eq_sq fun i j => ?_, eq_sq fun i j => ?_, eq_sq fun i j => ?_,
    eq_sq fun i j => ?_, eq_sq fun i j => ?_, eq_sq fun i j => ?_⟩ <;>
  · pointwise [k0_pay176, k0_pay177, k0_pay13, k0_pay14, k0_pay15, k0_pay16, k0_pay18, k0_pay19, k0_pay21, k0_pay22, k0_pay23, k0_pay24, k0_pay26, k0_pay27, k0_pay28, k0_pay29, k0_pay31, k0_pay32, k0_pay34, k0_pay35, k0_pay36, k0_pay37, k0_pay178, k0_pay179, k0_pay180, k0_pay181, k0_pay182, k0_pay183, k0_pay184, k0_pay185, k0_pay186, k0_pay187, k0_pay188, k0_pay189]
    simp only [rho_eq h, theta_eq h, sq_apply, h.mr1, h.mt1, h.pr1, h.pt1]
    exact gauss_coe _ _ _ _ _ _

theorem weights2 (h : Holds p B) :
    k0_pay39 (B.ap k0_pay176) (B.ap k0_pay177) (View.ld B.x12 r0_10) (View.ld B.x12 r0_11) (View.ld B.x12 r0_12) (View.ld B.x12 r0_13) = sq (w2 p 0)
    ∧ k0_pay41 (B.ap k0_pay176) (B.ap k0_pay177) (View.ld B.x12 r0_14) (View.ld B.x12 r0_15) (View.ld B.x12 r0_16) (View.ld B.x12 r0_17) = sq (w2 p 1)
    ∧ k0_pay45 (B.ap k0_pay191) (B.ap k0_pay192) (View.ld B.x12 r0_20) (View.ld B.x12 r0_21) = sq (w2 p 2)
    ∧ k0_pay49 (B.ap k0_pay193) (B.ap k0_pay194) = sq (w2 p 3)
    ∧ k0_pay50 (B.ap k0_pay176) (B.ap k0_pay177) (View.ld B.x12 r0_26) (View.ld B.x12 r0_27) (View.ld B.x12 r0_28) (View.ld B.x12 r0_29) = sq (w2 p 4)
    ∧ k0_pay54 (B.ap k0_pay195) (B.ap k0_pay196) (View.ld B.x12 r0_32) (View.ld B.x12 r0_33) = sq (w2 p 5)
    ∧ k0_pay58 (B.ap k0_pay197) (B.ap k0_pay198) (View.ld B.x12 r0_37) = sq (w2 p 6)
    ∧ k0_pay59 (B.ap k0_pay176) (B.ap k0_pay177) (View.ld B.x12 r0_38) (View.ld B.x12 r0_39) (View.ld B.x12 r0_40) (View.ld B.x12 r0_41) = sq (w2 p 7) := by
  refine ⟨eq_sq fun i j => ?_, eq_sq fun i j => ?_, eq_sq fun i j => ?_, eq_sq fun i j => ?_, eq_sq fun i j => ?_,
    eq_sq fun i j => ?_, eq_sq fun i j => ?_, eq_sq fun i j => ?_⟩ <;>
  · pointwise [k0_pay176, k0_pay177, k0_pay39, k0_pay41, k0_pay43, k0_pay44, k0_pay45, k0_pay47, k0_pay48, k0_pay49, k0_pay50, k0_pay52, k0_pay53, k0_pay54, k0_pay56, k0_pay57, k0_pay58, k0_pay59, k0_pay191, k0_pay192, k0_pay193, k0_pay194, k0_pay195, k0_pay196, k0_pay197, k0_pay198]
    simp only [rho_eq h, theta_eq h, sq_apply, h.mr2, h.mt2, h.pr2, h.pt2]
    exact gauss_coe _ _ _ _ _ _

theorem total1 (h : Holds p B) : B.ap k0_pay190 = sq fun i j => ∑ f, w1 p f i j := by
  have e := weights1 h
  simp only [Blk.ap] at e
  obtain ⟨e0, e1, e2, e3, e4, e5, e6, e7⟩ := e
  refine eq_sq fun i j => ?_
  pointwise [k0_pay190, k0_pay38, k0_pay33, k0_pay30, k0_pay25, k0_pay20, k0_pay17, k0_pay12]
  rw [e0, e1, e2, e3, e4, e5, e6, e7]
  simp only [sq_apply, Fin.sum_univ_eight, EReal.coe_add, zero_add]

theorem total2 (h : Holds p B) : B.ap k0_pay199 = sq fun i j => ∑ f, w2 p f i j := by
  have e := weights2 h
  simp only [Blk.ap] at e
  obtain ⟨e0, e1, e2, e3, e4, e5, e6, e7⟩ := e
  refine eq_sq fun i j => ?_
  pointwise [k0_pay199, k0_pay60, k0_pay55, k0_pay51, k0_pay46, k0_pay42, k0_pay40]
  rw [e0, e1, e2, e3, e4, e5, e6, e7]
  simp only [sq_apply, Fin.sum_univ_eight, EReal.coe_add, zero_add]

end Cert.Net

end
-- ==== Proof.Rounds.lean ====
/-
  The fused kernel's sixteen rounds of repeated maximum, read as the rounds of `TopRow.step` on each row of logits, and
  the softmax over the entries they select.
-/
module

public import proofs.«01_k».proof.Proof.Weights

@[expose] public section

noncomputable section

namespace Cert.Net

open Finset Idealize.ShloMosaic Cert.KernelIdeal Cert.KernelIdeal.Gen TopRow

variable (p : In)

/-- A row's logits. -/
def row (i : Fin 100) (j : Fin 100) : EReal := (logit p i j : EReal)

/-- A row's state before round `n + 1`. -/
def rnd (n : ℕ) (i : Fin 100) : St (Fin 100) := (step low)^[n] (start (row p i))

/-- The remaining values. -/
def rem (n : ℕ) : FVec Ideal S1x100x100 .f32 := fun y => (rnd p n (y 1)).rem (y 2)

/-- Their greatest, by row. -/
def cur (n : ℕ) : FVec Ideal S1x100x1 .f32 := fun y => rowMax (rnd p n (y 1)).rem

/-- How many entries were met. -/
def cum (n : ℕ) : FVec Ideal S1x100x1 .f32 := fun y => (((rnd p n (y 1)).cum : ℝ) : EReal)

/-- The threshold. -/
def thr (n : ℕ) : FVec Ideal S1x100x1 .f32 := fun y => (rnd p n (y 1)).thr

/-- Where the greatest stands. -/
def hit (n : ℕ) : IVec S1x100x100 1 :=
  fun y => if (rnd p n (y 1)).rem (y 2) = rowMax (rnd p n (y 1)).rem then 1#1 else 0#1

theorem eq_ix3_100 (y : S1x100x100.Idx) : y = ix3 0 (y 1) (y 2) := by
  have hy : y = ix3 (y 0) (y 1) (y 2) := by funext d; match d with | ⟨0, _⟩ => rfl | ⟨1, _⟩ => rfl | ⟨2, _⟩ => rfl
  exact hy.trans (congrArg (fun a : Fin 1 => ix3 a (y 1) (y 2)) (Subsingleton.elim (α := Fin 1) _ _))

theorem eq_ix3_1 (y : S1x100x1.Idx) : y = ix3 0 (y 1) 0 := by
  have hy : y = ix3 (y 0) (y 1) (y 2) := by funext d; match d with | ⟨0, _⟩ => rfl | ⟨1, _⟩ => rfl | ⟨2, _⟩ => rfl
  exact hy.trans (congrArg₂ (fun (a : Fin 1) (c : Fin 1) => ix3 a (y 1) c) (Subsingleton.elim (α := Fin 1) _ _)
    (Subsingleton.elim (α := Fin 1) _ _))

theorem ext_sq {α : Type} {x x' : S1x100x100.Idx → α} (h : ∀ i j, x (ix3 0 i j) = x' (ix3 0 i j)) : x = x' := by
  funext y; rw [eq_ix3_100 y]; exact h _ _

theorem ext_col {α : Type} {x x' : S1x100x1.Idx → α} (h : ∀ i, x (ix3 0 i 0) = x' (ix3 0 i 0)) : x = x' := by
  funext y; rw [eq_ix3_1 y]; exact h _

theorem fold_max_eq (r : Fin 100 → EReal) : Finset.univ.fold max ⊥ r = rowMax r := rfl

theorem read_max (x : FVec Ideal S1x100x100 .f32) (i : Fin 100) :
    shapeCast S1x100x1 (multiReduction .maximumf [2] S1x100 x 0xFF800000#32 reduces_S1x100x100_S1x100 (.inl rfl) rfl)
      shapeCasts_S1x100_S1x100x1 (ix3 0 i 0) = rowMax fun j => x (ix3 0 i j) := by
  pointwise
  simp only [lit_bot, fold_max_eq]

theorem at_cur (n : ℕ) :
    shapeCast S1x100x1 (multiReduction .maximumf [2] S1x100 (rem p n) 0xFF800000#32 reduces_S1x100x100_S1x100 (.inl rfl) rfl)
      shapeCasts_S1x100_S1x100x1 = cur p n := ext_col fun i => by
  rw [read_max]; rfl

theorem rem_apply (n : ℕ) (i j : Fin 100) : rem p n (ix3 0 i j) = (rnd p n i).rem j := rfl
theorem cur_apply (n : ℕ) (i : Fin 100) : cur p n (ix3 0 i 0) = rowMax (rnd p n i).rem := rfl
theorem cum_apply (n : ℕ) (i : Fin 100) : cum p n (ix3 0 i 0) = (((rnd p n i).cum : ℝ) : EReal) := rfl
theorem thr_apply (n : ℕ) (i : Fin 100) : thr p n (ix3 0 i 0) = (rnd p n i).thr := rfl
theorem hit_apply (n : ℕ) (i j : Fin 100) :
    hit p n (ix3 0 i j) = if (rnd p n i).rem j = rowMax (rnd p n i).rem then 1#1 else 0#1 := rfl
theorem rnd_succ (n : ℕ) (i : Fin 100) : rnd p (n + 1) i = step low (rnd p n i) := Function.iterate_succ_apply' _ _ _

theorem ofBool_decide (P : Prop) [Decidable P] : BitVec.ofBool (decide P) = if P then 1#1 else 0#1 := by
  by_cases h : P <;> simp [h]

theorem select_ite {α : Type} (P : Prop) [Decidable P] (a b : α) :
    Scalar.select (if P then 1#1 else 0#1) a b = if P then a else b := by
  by_cases h : P <;> simp [Scalar.select, h]

theorem flag_coe (P : Prop) [Decidable P] :
    FloatOps.sitofp (F := Ideal) FTy.f32 (BitVec.setWidth 32 (if P then 1#1 else 0#1)) = (((if P then 1 else 0 : ℝ)) : EReal) := by
  by_cases h : P
  · rw [if_pos h, if_pos h]; show (((BitVec.setWidth 32 1#1).toInt : ℝ) : EReal) = _; norm_num
  · rw [if_neg h, if_neg h]; show (((BitVec.setWidth 32 0#1).toInt : ℝ) : EReal) = _; norm_num

/-- Adding up flags counts the positions that carry one. -/
theorem count_hit {ι : Type} [Fintype ι] (P : ι → Prop) [DecidablePred P] :
    (∑ x, FloatOps.sitofp (F := Ideal) FTy.f32 (BitVec.setWidth 32 (if P x then 1#1 else 0#1))) = ((#{x | P x} : ℝ) : EReal) := by
  simp only [flag_coe]
  rw [← coe_sum, Finset.sum_boole]

theorem at_hit (n : ℕ) :
    cmpf .oeq (rem p n) (broadcastTo S1x100x100 (cur p n) broadcasts_S1x100x1_S1x100x100) = hit p n := ext_sq fun i j => by
  pointwise
  rw [rem_apply, cur_apply, hit_apply]
  exact ofBool_decide _

theorem at_rem (n : ℕ) :
    select (hit p n) (broadcast S1x100x100 (Scalar.ofBits (F := Ideal) .f32 0xFF61B1E6#32)) (rem p n) = rem p (n + 1) := ext_sq fun i j => by
  pointwise
  rw [rem_apply, rem_apply, hit_apply, select_ite, rnd_succ]
  rfl

theorem at_cum (n : ℕ) :
    addf (cum p n) (shapeCast S1x100x1 (multiReduction .add [2] S1x100 (sitofp .f32 (extui 32 (hit p n) natLt_1_32)) 0x00000000#32
      reduces_S1x100x100_S1x100 (.inl rfl) rfl) shapeCasts_S1x100_S1x100x1) = cum p (n + 1) := ext_col fun i => by
  pointwise
  rw [cum_apply, cum_apply, rnd_succ]
  simp only [hit_apply, count_hit]
  rw [← EReal.coe_add]
  refine congrArg _ ?_
  show _ = (((rnd p n i).cum + #{k | (rnd p n i).rem k = rowMax (rnd p n i).rem} : ℕ) : ℝ)
  push_cast
  rfl

theorem at_thr (n : ℕ) :
    select (cmpf .olt (cum p n) (broadcast S1x100x1 (Scalar.ofBits (F := Ideal) .f32 0x41800000#32))) (cur p n) (thr p n) = thr p (n + 1) := ext_col fun i => by
  pointwise
  rw [cum_apply, cur_apply, thr_apply, thr_apply, rnd_succ, lit_sixteen]
  exact if_congr (by rw [EReal.coe_lt_coe_iff]; exact_mod_cast Iff.rfl) rfl rfl

theorem rem_zero : sq (logit p) = rem p 0 := ext_sq fun i j => rfl
theorem cum_zero : broadcast S1x100x1 (Scalar.ofBits (F := Ideal) .f32 0x00000000#32) = cum p 0 := ext_col fun i => by
  pointwise
  rw [cum_apply]
  exact (congrArg _ Nat.cast_zero).symm
theorem thr_one : cur p 0 = thr p 1 := ext_col fun i => by
  rw [cur_apply, thr_apply, rnd_succ]
  rfl

theorem at_thr_one : select (cmpf .olt (cum p 1) (broadcast S1x100x1 (Scalar.ofBits (F := Ideal) .f32 0x41800000#32))) (cur p 1) (cur p 0)
    = thr p 2 := by
  rw [thr_one]; exact at_thr p 1

/-- The flags of round `n`, as numbers. -/
def flags (n : ℕ) : FVec Ideal S1x100x100 .f32 := sitofp .f32 (extui 32 (hit p n) natLt_1_32)

/-- The rounds up to the third. -/
theorem rounds0 : k0_pay75 (sq (logit p)) = cur p 0 ∧ k0_pay84 (sq (logit p)) = thr p 3 ∧ k0_pay86 (sq (logit p)) = cum p 3 ∧
    k0_pay87 (sq (logit p)) = rem p 3 ∧ k0_pay88 (sq (logit p)) = cur p 3 := by
  rw [rem_zero]
  refine ⟨?_, ?_, ?_, ?_, ?_⟩ <;>
  simp -proj only [k0_pay75, k0_pay76, k0_pay77, k0_pay78, k0_pay79, k0_pay80, k0_pay81, k0_pay82, k0_pay83, k0_pay84, k0_pay85, k0_pay86, k0_pay87, k0_pay88, cum_zero p, at_cur, at_hit, at_rem, at_cum, at_thr, at_thr_one, Nat.reduceAdd, zero_add]

/-- Four rounds on, from the state after `n` of them. -/
theorem rounds1 (n : ℕ) : k0_pay99 (cum p n) (rem p n) (cur p n) = cum p (n + 3) ∧ k0_pay100 (rem p n) (cur p n) = rem p (n + 3) ∧
    k0_pay102 (thr p n) (cum p n) (rem p n) (cur p n) k0_pay89 = thr p (n + 4) ∧ k0_pay103 (rem p n) (cur p n) = hit p (n + 3) ∧
    k0_pay104 (rem p n) (cur p n) = flags p (n + 3) := by
  refine ⟨?_, ?_, ?_, ?_, ?_⟩ <;>
  simp -proj only [flags, k0_pay89, k0_pay90, k0_pay91, k0_pay92, k0_pay93, k0_pay94, k0_pay95, k0_pay96, k0_pay97, k0_pay98, k0_pay99, k0_pay100, k0_pay101, k0_pay102, k0_pay103, k0_pay104, at_cur, at_hit, at_rem, at_cum, at_thr]

/-- Three rounds on, where the marks of the round under way are already there. -/
theorem rounds2 (n : ℕ) : k0_pay114 (rem p n) (hit p n) = rem p (n + 3) ∧
    k0_pay116 (cum p n) (rem p n) (thr p (n + 1)) (hit p n) (flags p n) = thr p (n + 4) ∧
    k0_pay117 (rem p n) (hit p n) = hit p (n + 3) ∧ k0_pay118 (cum p n) (rem p n) (hit p n) (flags p n) = cum p (n + 4) := by
  refine ⟨?_, ?_, ?_, ?_⟩ <;>
  simp -proj only [flags, k0_pay105, k0_pay106, k0_pay107, k0_pay108, k0_pay109, k0_pay110, k0_pay111, k0_pay112, k0_pay113, k0_pay114, k0_pay115, k0_pay116, k0_pay117, k0_pay118, at_cur, at_hit, at_rem, at_cum, at_thr]

/-- Three rounds on once more, the marks counted too. -/
theorem rounds3 (n : ℕ) : k0_pay130 (rem p n) (thr p (n + 1)) (hit p n) (cum p (n + 1)) k0_pay119 = thr p (n + 4) ∧
    k0_pay132 (rem p n) (hit p n) (cum p (n + 1)) k0_pay119 = cum p (n + 4) ∧ k0_pay133 (rem p n) (hit p n) k0_pay119 = rem p (n + 4) ∧
    k0_pay134 (rem p n) (hit p n) k0_pay119 = cur p (n + 4) := by
  refine ⟨?_, ?_, ?_, ?_⟩ <;>
  simp -proj only [k0_pay119, k0_pay120, k0_pay121, k0_pay122, k0_pay123, k0_pay124, k0_pay125, k0_pay126, k0_pay127, k0_pay128, k0_pay129, k0_pay130, k0_pay131, k0_pay132, k0_pay133, k0_pay134, at_cur, at_hit, at_rem, at_cum, at_thr]

/-- The last rounds. -/
theorem rounds4 (n : ℕ) : k0_pay136 (thr p n) (cum p n) (rem p n) (cur p n) k0_pay135 = thr p (n + 3) := by
  simp -proj only [k0_pay135, k0_pay136, at_cur, at_hit, at_rem, at_cum, at_thr]

/-- The threshold of row `i`. -/
def cut (i : Fin 100) : EReal := (rnd p 16 i).thr

def above : IVec S1x100x100 1 := fun y => if cut p (y 1) < row p (y 1) (y 2) then 1#1 else 0#1
def equal : IVec S1x100x100 1 := fun y => if row p (y 1) (y 2) = cut p (y 1) then 1#1 else 0#1
def count : FVec Ideal S1x100x1 .f32 := fun y => ((#{k | cut p (y 1) < row p (y 1) k} : ℝ) : EReal)
def rank : FVec Ideal S1x100x100 .f32 := fun y => ((#{k | row p (y 1) k = cut p (y 1) ∧ k < y 2} : ℝ) : EReal)
theorem above_apply (i j : Fin 100) : above p (ix3 0 i j) = if cut p i < row p i j then 1#1 else 0#1 := rfl
theorem equal_apply (i j : Fin 100) : equal p (ix3 0 i j) = if row p i j = cut p i then 1#1 else 0#1 := rfl
theorem count_apply (i : Fin 100) : count p (ix3 0 i 0) = ((#{k | cut p i < row p i k} : ℝ) : EReal) := rfl
theorem rank_apply (i j : Fin 100) : rank p (ix3 0 i j) = ((#{k | row p i k = cut p i ∧ k < j} : ℝ) : EReal) := rfl

theorem row_apply (i j : Fin 100) : sq (logit p) (ix3 0 i j) = row p i j := rfl
theorem cut_apply (i : Fin 100) : thr p 16 (ix3 0 i 0) = cut p i := rfl

theorem at_above : cmpf .ogt (sq (logit p)) (broadcastTo S1x100x100 (thr p 16) broadcasts_S1x100x1_S1x100x100) = above p := ext_sq fun i j => by
  pointwise
  rw [row_apply, cut_apply, above_apply]
  exact ofBool_decide _

theorem at_equal : cmpf .oeq (sq (logit p)) (broadcastTo S1x100x100 (thr p 16) broadcasts_S1x100x1_S1x100x100) = equal p := ext_sq fun i j => by
  pointwise
  rw [row_apply, cut_apply, equal_apply]
  exact ofBool_decide _

theorem at_count : shapeCast S1x100x1 (multiReduction .add [2] S1x100 (sitofp .f32 (extui 32 (above p) natLt_1_32)) 0x00000000#32
      reduces_S1x100x100_S1x100 (.inl rfl) rfl) shapeCasts_S1x100_S1x100x1 = count p := ext_col fun i => by
  pointwise
  simp only [above_apply, count_hit]
  rfl

theorem selection : k0_pay137 (sq (logit p)) (thr p 13) (cum p 13) (rem p 13) (cur p 13) k0_pay135 = above p ∧
    k0_pay138 (sq (logit p)) (thr p 13) (cum p 13) (rem p 13) (cur p 13) k0_pay135 = count p ∧
    k0_pay139 (sq (logit p)) (thr p 13) (cum p 13) (rem p 13) (cur p 13) k0_pay135 = equal p := by
  refine ⟨?_, ?_, ?_⟩ <;> simp -proj only [k0_pay137, k0_pay138, k0_pay139, rounds4 p 13, Nat.reduceAdd, at_above, at_equal, at_count]

theorem cmpi_slt_ofNat (i j : Fin 100) :
    IntOp.cmpi .slt (BitVec.ofNat 32 i.val) (BitVec.ofNat 32 j.val) = if i < j then 1#1 else 0#1 := by
  revert i j; decide +kernel

theorem selection_rank : k0_pay140 (sq (logit p)) (thr p 13) (cum p 13) (rem p 13) (cur p 13) k0_pay135 = rank p := ext_sq fun i j => by
  rw [k0_pay140, (selection p).2.2]
  pointwise
  simp only [equal_apply, flag_coe, cmpi_slt_ofNat, ← EReal.coe_mul, rank_apply]
  rw [← coe_sum, ← Finset.sum_boole]
  refine congrArg _ (Finset.sum_congr rfl fun x _ => ?_)
  by_cases h : row p i x = cut p i <;> by_cases h' : x < j <;> simp [h, h']

theorem cut_spec (i : Fin 100) : #{k | cut p i < row p i k} < 16 ∧ 16 ≤ #{k | cut p i ≤ row p i k} :=
  threshold low (row p i) (fun k => low_neg.trans_le (EReal.coe_nonneg.mpr (logit_nonneg p i k))) (by simp)

theorem top_row (i j : Fin 100) : TopRow.Top (row p i) j ↔ TopRow.Top (logit p i) j := by
  have hb : ∀ k, Beats (row p i) k j ↔ Beats (logit p i) k j := fun k => by
    simp only [Beats, row, EReal.coe_lt_coe_iff, EReal.coe_eq_coe_iff]
  simp only [TopRow.Top, hb]

theorem or_and_flags (a b c : Prop) [Decidable a] [Decidable b] [Decidable c] : IntOp.ori (if a then 1#1 else 0#1)
    (IntOp.andi (if b then 1#1 else 0#1) (if c then 1#1 else 0#1)) = if a ∨ (b ∧ c) then 1#1 else 0#1 := by
  by_cases h1 : a <;> by_cases h2 : b <;> by_cases h3 : c <;> simp only [h1, h2, h3, if_true, if_false, or_true, or_false, and_true, and_false, true_or, false_or] <;> rfl

/-- An entry is kept by the kernel when it is among its row's sixteen greatest. -/
theorem kept (i j : Fin 100) : IntOp.ori (if cut p i < row p i j then 1#1 else 0#1)
    (IntOp.andi (if row p i j = cut p i then 1#1 else 0#1)
      (BitVec.ofBool (decide (((#{k | row p i k = cut p i ∧ k < j} : ℝ) : EReal)
        < ((16 : ℝ) : EReal) - ((#{k | cut p i < row p i k} : ℝ) : EReal)))))
    = if TopRow.Top (logit p i) j then 1#1 else 0#1 := by
  rw [ofBool_decide, ← EReal.coe_sub, if_congr (EReal.coe_lt_coe_iff.trans (lt_sub_iff_add_lt.trans
    (show _ ↔ #{k | row p i k = cut p i ∧ k < j} + #{k | cut p i < row p i k} < 16 by exact_mod_cast Iff.rfl))) rfl rfl,
    ← if_congr ((selected_iff (row p i) (cut p i) (cut_spec p i).1 (cut_spec p i).2 j).trans (top_row p i j)) rfl rfl]
  exact or_and_flags _ _ _

theorem rowMax_real (i : Fin 100) : ∃ m : ℝ, rowMax (rnd p 0 i).rem = (m : EReal) := by
  obtain ⟨k, hk⟩ := exists_rowMax (row p i)
  exact ⟨logit p i k, hk.symm⟩

/-- The kernel's mask and quotient give the softmax over the sixteen selected entries. -/
theorem at_adj : k0_pay142 (sq (logit p)) (cur p 0) (above p) (count p) (equal p) (rank p) k0_pay141 = sq (adj p) := ext_sq fun i j => by
  pointwise [k0_pay142, k0_pay141]
  obtain ⟨m, hm⟩ := rowMax_real p i
  simp only [above_apply, equal_apply, count_apply, rank_apply, cur_apply, sq_apply, lit_sixteen, kept, select_ite, hm]
  simp only [← EReal.coe_sub, ← coe_exp]
  have e : ∀ x, (if TopRow.Top (logit p i) x then ((Real.exp (logit p i x - m) : ℝ) : EReal) else 0)
      = ((if TopRow.Top (logit p i) x then Real.exp (logit p i x - m) else 0 : ℝ) : EReal) := fun x => by split <;> rfl
  simp only [e, ← coe_sum]
  rw [← coe_div (shifted_pos p m i).ne', ← adj_shift]

end Cert.Net

end
-- ==== Proof.Layers.lean ====
/-
  The fused kernel's two graph convolutions: from blocks that hold one batch element's real inputs, the buffer its
  eight stores fill holds the network's pooled features.
-/
module

public import proofs.«01_k».proof.Proof.Rounds

@[expose] public section

noncomputable section

namespace Cert.Net

open Finset Idealize.ShloMosaic Cert.KernelIdeal Cert.KernelIdeal.Gen

variable {p : In} {B : Blk}

/-! ### The rounds, chained -/

theorem rounds (h : Holds p B) : B.ap k0_pay205 = cur p 0 ∧ B.ap k0_pay217 = thr p 13 ∧ B.ap k0_pay218 = cum p 13 ∧
    B.ap k0_pay219 = rem p 13 ∧ B.ap k0_pay220 = cur p 13 := by
  have hl := logits_eq h
  obtain ⟨a75, a84, a86, a87, a88⟩ := rounds0 p
  obtain ⟨b99, b100, b102, b103, b104⟩ := rounds1 p 3
  obtain ⟨c114, c116, c117, c118⟩ := rounds2 p 6
  obtain ⟨d130, d132, d133, d134⟩ := rounds3 p 9
  simp only [Blk.ap] at hl ⊢
  simp only [k0_pay205, k0_pay206, k0_pay207, k0_pay208, k0_pay209, k0_pay210, k0_pay211, k0_pay212, k0_pay213, k0_pay214,
    k0_pay215, k0_pay216, k0_pay217, k0_pay218, k0_pay219, k0_pay220, hl, a75, a84, a86, a87, a88, b99, b100, b102, b103, b104,
    c114, c116, c117, c118, d130, d132, d133, d134, Nat.reduceAdd, and_self]

theorem selected (h : Holds p B) : B.ap k0_pay222 = above p ∧ B.ap k0_pay223 = count p ∧ B.ap k0_pay224 = equal p ∧
    B.ap k0_pay225 = rank p ∧ B.ap k0_pay228 = sq (adj p) := by
  have hl := logits_eq h
  obtain ⟨e0, e1, e2, e3, e4⟩ := rounds h
  obtain ⟨s0, s1, s2⟩ := selection p
  simp only [Blk.ap] at hl e0 e1 e2 e3 e4 ⊢
  simp only [k0_pay221, k0_pay222, k0_pay223, k0_pay224, k0_pay225, k0_pay226, k0_pay228, hl, e0, e1, e2, e3, e4, s0, s1, s2,
    selection_rank, at_adj, and_self]

/-- The first layer's common factor of an edge's eight weights. -/
theorem scale1 (h : Holds p B) : k0_pay143 (B.ap k0_pay175) (B.ap k0_pay190) (B.ap k0_pay205) (B.ap k0_pay222) (B.ap k0_pay223)
    (B.ap k0_pay224) (B.ap k0_pay225) (B.ap k0_pay226) = sq fun i j => adj p i j / ((∑ g, w1 p g i j) + eps) := by
  obtain ⟨s0, s1, s2, s3, -⟩ := selected h
  rw [logits_eq h, total1 h, (rounds h).1, s0, s1, s2, s3]
  refine eq_sq fun i j => ?_
  unfold k0_pay143
  simp only [Blk.ap, k0_pay226, at_adj]
  pointwise
  simp only [sq_apply, lit_eps, ← EReal.coe_add]
  rw [← coe_div (total_pos (fun g => w1 p g i j) fun f => w_nonneg _ _ _ _ _ _).ne']

/-- The second layer's. -/
theorem scale2 (h : Holds p B) : k0_pay161 (B.ap k0_pay199) (B.ap k0_pay228)
    = sq fun i j => adj p i j / ((∑ g, w2 p g i j) + eps) := by
  rw [total2 h, (selected h).2.2.2.2]
  refine eq_sq fun i j => ?_
  pointwise [k0_pay161]
  simp only [sq_apply, lit_eps, ← EReal.coe_add]
  rw [← coe_div (total_pos (fun g => w2 p g i j) fun f => w_nonneg _ _ _ _ _ _).ne']

/-! ### The first layer -/

/-- A table of reals as an array. -/
def mat {m : ℕ} (f : Fin 100 → Fin m → ℝ) : (⟨2, ![100, m]⟩ : Shape).Idx → EReal := fun y => (f (y 0) (y 1) : EReal)

theorem mat_apply {m : ℕ} (f : Fin 100 → Fin m → ℝ) (i : Fin 100) (o : Fin m) : mat f (ix2 i o) = (f i o : EReal) := rfl

theorem eq_mat {m : ℕ} {x : (⟨2, ![100, m]⟩ : Shape).Idx → EReal} {f : Fin 100 → Fin m → ℝ} (h : ∀ i o, x (ix2 i o) = (f i o : EReal)) :
    x = mat f := by
  funext y
  have hy : y = ix2 (y 0) (y 1) := by funext d; match d with | ⟨0, _⟩ => rfl | ⟨1, _⟩ => rfl
  rw [hy]; exact h _ _

/-- The objects' own features through filter `f`'s map. -/
def lin1 (p : In) (f : Fin 8) (j : Fin 100) (o : Fin 256) : ℝ := ∑ d, vb p j d * p.c1 f d o

theorem linear1 (h : Holds p B) :
    k0_pay63 (B.ap k0_pay200) (View.ld B.x1 r0_1) (View.ld B.x13 r0_42) (View.ld B.x14 r0_43) = mat (lin1 p 0)
    ∧ k0_pay64 (B.ap k0_pay200) (View.ld B.x1 r0_1) (View.ld B.x13 r0_44) (View.ld B.x14 r0_45) = mat (lin1 p 1)
    ∧ k0_pay65 (B.ap k0_pay200) (View.ld B.x1 r0_1) (View.ld B.x13 r0_46) (View.ld B.x14 r0_47) = mat (lin1 p 2)
    ∧ k0_pay68 (B.ap k0_pay201) (k0_pay66 (View.ld B.x14 r0_49)) (k0_pay67 (B.ap k0_pay200) (View.ld B.x13 r0_48)) = mat (lin1 p 3)
    ∧ k0_pay69 (B.ap k0_pay200) (B.ap k0_pay201) (View.ld B.x13 r0_50) (View.ld B.x14 r0_51) = mat (lin1 p 4)
    ∧ B.ap k0_pay202 = mat (lin1 p 5) ∧ B.ap k0_pay203 = mat (lin1 p 6) ∧ B.ap k0_pay204 = mat (lin1 p 7) := by
  refine ⟨eq_mat fun i o => ?_, eq_mat fun i o => ?_, eq_mat fun i o => ?_, eq_mat fun i o => ?_, eq_mat fun i o => ?_,
    eq_mat fun i o => ?_, eq_mat fun i o => ?_, eq_mat fun i o => ?_⟩ <;>
  · pointwise [k0_pay61, k0_pay62, k0_pay63, k0_pay64, k0_pay65, k0_pay66, k0_pay67, k0_pay68, k0_pay69, k0_pay70, k0_pay71,
      k0_pay72, k0_pay73, k0_pay74, k0_pay200, k0_pay201, k0_pay202, k0_pay203, k0_pay204]
    simp only [h.v, h.b, h.c1v, h.c1b, ← EReal.coe_mul, ← coe_sum, ← EReal.coe_add]
    rw [lin1, sum_vb_mul]

/-- A convolution written as the kernel has it: the edge's weight, its common factor, and the features already mapped. -/
theorem gather_coe {m : ℕ} (w : Fin 8 → Fin 100 → Fin 100 → ℝ) (x : Fin 100 → Fin m → ℝ) {n : ℕ} (c : Fin 8 → Fin m → Fin n → ℝ)
    (f : Fin 8) (i : Fin 100) (o : Fin n) :
    max (∑ j, (w f i j : EReal) * ((adj p i j / ((∑ g, w g i j) + eps) : ℝ) : EReal) * ((∑ d, x j d * c f d o : ℝ) : EReal)) 0
      = (conv p w x c f i o : EReal) := by
  rw [conv_eq]
  simp only [← EReal.coe_mul, ← coe_sum]
  rw [coe_max, EReal.coe_zero]

theorem parts1 (h : Holds p B) : B.ap k0_pay231 = mat (conv p (w1 p) (vb p) p.c1 0) ∧ B.ap k0_pay232 = mat (conv p (w1 p) (vb p) p.c1 1)
    ∧ B.ap k0_pay233 = mat (conv p (w1 p) (vb p) p.c1 2) ∧ B.ap k0_pay234 = mat (conv p (w1 p) (vb p) p.c1 3)
    ∧ B.ap k0_pay235 = mat (conv p (w1 p) (vb p) p.c1 4) := by
  have s := scale1 h
  obtain ⟨a0, a1, a2, a3, a4, -⟩ := weights1 h
  obtain ⟨l0, l1, l2, l3, l4, -⟩ := linear1 h
  simp only [Blk.ap] at s a0 a1 a2 a3 a4 l0 l1 l2 l3 l4 ⊢
  refine ⟨eq_mat fun i o => ?_, eq_mat fun i o => ?_, eq_mat fun i o => ?_, eq_mat fun i o => ?_, eq_mat fun i o => ?_⟩ <;>
  · simp only [k0_pay231, k0_pay232, k0_pay233, k0_pay234, k0_pay235, k0_pay146, k0_pay147, k0_pay148, k0_pay149, k0_pay150,
      s, a0, a1, a2, a3, a4, l0, l1, l2, l3, l4]
    pointwise
    simp only [sq_apply, mat_apply]
    exact gather_coe (w1 p) (vb p) p.c1 _ i o

/-- The kernel lays the eight filters' features side by side, the last three still to be gathered. -/
theorem stack_apply (l5 l6 l7 c0 c1 c2 c3 c4 : FVec Ideal S100x256 .f32) (a6 a7 : FVec Ideal S1x100x100 .f32) (a5 : FVec Ideal S100x100 .f32)
    (g : Fin 8 → Fin 100 → Fin 256 → EReal)
    (h0 : ∀ i o, c0 (ix2 i o) = g 0 i o) (h1 : ∀ i o, c1 (ix2 i o) = g 1 i o) (h2 : ∀ i o, c2 (ix2 i o) = g 2 i o)
    (h3 : ∀ i o, c3 (ix2 i o) = g 3 i o) (h4 : ∀ i o, c4 (ix2 i o) = g 4 i o)
    (h5 : ∀ i o, max (∑ j, a5 (ix2 i j) * l5 (ix2 j o)) 0 = g 5 i o) (h6 : ∀ i o, max (∑ j, a6 (ix3 0 i j) * l6 (ix2 j o)) 0 = g 6 i o)
    (h7 : ∀ i o, max (∑ j, a7 (ix3 0 i j) * l7 (ix2 j o)) 0 = g 7 i o) (i : Fin 100) (k : Fin 2048) :
    k0_pay152 l5 l6 l7 a6 a7 c0 c1 c2 c3 c4 a5 (constant S100x256 .f32 0x00000000#32) (ix2 i k) = g ⟨k.val / 256, by omega⟩ i ⟨k.val % 256, by omega⟩ := by
  pointwise [k0_pay152]
  simp only [h0, h1, h2, h3, h4, h5, h6, h7]
  repeat' split
  all_goals refine congrArg₂ (fun f o => g f i o) (Fin.ext ?_) (Fin.ext ?_) <;> simp <;> omega

theorem stacked1 (h : Holds p B) : B.ap k0_pay237 = mat (layer1 p) := by
  have s := scale1 h
  obtain ⟨-, -, -, -, -, a5, a6, a7⟩ := weights1 h
  obtain ⟨-, -, -, -, -, l5, l6, l7⟩ := linear1 h
  obtain ⟨c0, c1, c2, c3, c4⟩ := parts1 h
  simp only [Blk.ap] at s a5 a6 a7 l5 l6 l7 c0 c1 c2 c3 c4 ⊢
  have e5 : B.ap k0_pay236 = mat fun i j => w1 p 5 i j * (adj p i j / ((∑ g, w1 p g i j) + eps)) := eq_mat fun i j => by
    simp only [Blk.ap, k0_pay236, k0_pay151, s, a5]
    pointwise
    simp only [sq_apply, EReal.coe_mul]
  have e6 : B.ap k0_pay229 = sq fun i j => w1 p 6 i j * (adj p i j / ((∑ g, w1 p g i j) + eps)) := eq_sq fun i j => by
    simp only [Blk.ap, k0_pay229, k0_pay144, s, a6]
    pointwise
    simp only [sq_apply, EReal.coe_mul]
  have e7 : B.ap k0_pay230 = sq fun i j => w1 p 7 i j * (adj p i j / ((∑ g, w1 p g i j) + eps)) := eq_sq fun i j => by
    simp only [Blk.ap, k0_pay230, k0_pay145, s, a7]
    pointwise
    simp only [sq_apply, EReal.coe_mul]
  simp only [Blk.ap] at e5 e6 e7
  refine eq_mat fun i k => ?_
  rw [k0_pay237, k0_pay227, e5, e6, e7, l5, l6, l7, c0, c1, c2, c3, c4]
  refine stack_apply _ _ _ _ _ _ _ _ _ _ _ (fun f i o => ((conv p (w1 p) (vb p) p.c1 f i o : ℝ) : EReal)) (mat_apply _) (mat_apply _) (mat_apply _)
    (mat_apply _) (mat_apply _) (fun i o => ?_) (fun i o => ?_) (fun i o => ?_) i k <;>
  · simp only [sq_apply, mat_apply, EReal.coe_mul]
    exact gather_coe (w1 p) (vb p) p.c1 _ i o

/-! ### The second layer -/

/-- A table of extended reals as an array. -/
def arr {m : ℕ} (f : Fin 100 → Fin m → EReal) : (⟨2, ![100, m]⟩ : Shape).Idx → EReal := fun y => f (y 0) (y 1)

theorem arr_apply {m : ℕ} (f : Fin 100 → Fin m → EReal) (i : Fin 100) (o : Fin m) : arr f (ix2 i o) = f i o := rfl

theorem eq_arr {m : ℕ} {x : (⟨2, ![100, m]⟩ : Shape).Idx → EReal} {f : Fin 100 → Fin m → EReal} (h : ∀ i o, x (ix2 i o) = f i o) :
    x = arr f := by
  funext y
  have hy : y = ix2 (y 0) (y 1) := by funext d; match d with | ⟨0, _⟩ => rfl | ⟨1, _⟩ => rfl
  rw [hy]; exact h _ _

/-- The first layer's features through filter `f`'s second map. -/
def lin2 (p : In) (f : Fin 8) (j : Fin 100) (o : Fin 128) : EReal := ∑ d, (layer1 p j d : EReal) * p.c2 f d o

theorem linear2 (h : Holds p B) :
    k0_pay153 (B.ap k0_pay202) (B.ap k0_pay203) (B.ap k0_pay204) (B.ap k0_pay229) (B.ap k0_pay230) (B.ap k0_pay231) (B.ap k0_pay232) (B.ap k0_pay233) (B.ap k0_pay234) (B.ap k0_pay235) (B.ap k0_pay236) (B.ap k0_pay227) (View.ld B.x15 r0_58) = arr (lin2 p 0)
    ∧ k0_pay154 (B.ap k0_pay202) (B.ap k0_pay203) (B.ap k0_pay204) (B.ap k0_pay229) (B.ap k0_pay230) (B.ap k0_pay231) (B.ap k0_pay232) (B.ap k0_pay233) (B.ap k0_pay234) (B.ap k0_pay235) (B.ap k0_pay236) (B.ap k0_pay227) (View.ld B.x15 r0_59) = arr (lin2 p 1)
    ∧ k0_pay155 (B.ap k0_pay202) (B.ap k0_pay203) (B.ap k0_pay204) (B.ap k0_pay229) (B.ap k0_pay230) (B.ap k0_pay231) (B.ap k0_pay232) (B.ap k0_pay233) (B.ap k0_pay234) (B.ap k0_pay235) (B.ap k0_pay236) (B.ap k0_pay227) (View.ld B.x15 r0_60) = arr (lin2 p 2)
    ∧ k0_pay156 (B.ap k0_pay202) (B.ap k0_pay203) (B.ap k0_pay204) (B.ap k0_pay229) (B.ap k0_pay230) (B.ap k0_pay231) (B.ap k0_pay232) (B.ap k0_pay233) (B.ap k0_pay234) (B.ap k0_pay235) (B.ap k0_pay236) (B.ap k0_pay227) (View.ld B.x15 r0_61) = arr (lin2 p 3)
    ∧ k0_pay157 (B.ap k0_pay202) (B.ap k0_pay203) (B.ap k0_pay204) (B.ap k0_pay229) (B.ap k0_pay230) (B.ap k0_pay231) (B.ap k0_pay232) (B.ap k0_pay233) (B.ap k0_pay234) (B.ap k0_pay235) (B.ap k0_pay236) (B.ap k0_pay227) (View.ld B.x15 r0_62) = arr (lin2 p 4)
    ∧ k0_pay158 (B.ap k0_pay202) (B.ap k0_pay203) (B.ap k0_pay204) (B.ap k0_pay229) (B.ap k0_pay230) (B.ap k0_pay231) (B.ap k0_pay232) (B.ap k0_pay233) (B.ap k0_pay234) (B.ap k0_pay235) (B.ap k0_pay236) (B.ap k0_pay227) (View.ld B.x15 r0_63) = arr (lin2 p 5)
    ∧ k0_pay159 (B.ap k0_pay237) (View.ld B.x15 r0_64) = arr (lin2 p 6)
    ∧ k0_pay160 (B.ap k0_pay237) (View.ld B.x15 r0_65) = arr (lin2 p 7) := by
  have e := stacked1 h
  have e' := e
  simp only [Blk.ap, k0_pay237] at e' ⊢
  simp only [Blk.ap] at e
  refine ⟨eq_arr fun i o => ?_, eq_arr fun i o => ?_, eq_arr fun i o => ?_, eq_arr fun i o => ?_, eq_arr fun i o => ?_,
    eq_arr fun i o => ?_, eq_arr fun i o => ?_, eq_arr fun i o => ?_⟩ <;>
  · simp only [k0_pay153, k0_pay154, k0_pay155, k0_pay156, k0_pay157, k0_pay158, k0_pay159, k0_pay160, e', e]
    pointwise
    simp only [mat_apply, h.c2]
    rfl

/-- A second convolution written as the kernel has it. -/
theorem gather_second (f : Fin 8) (i : Fin 100) (o : Fin 128) :
    max (∑ j, (w2 p f i j : EReal) * ((adj p i j / ((∑ g, w2 p g i j) + eps) : ℝ) : EReal) * lin2 p f j o) 0 = second p f i o := by
  rw [second_eq]
  simp only [← EReal.coe_mul]
  rfl

/-- The greatest of the objects' features, filter `f`'s. -/
def top2 (p : In) (f : Fin 8) (o : Fin 128) : EReal := univ.fold max ⊥ fun i : Fin 100 => second p f i o

theorem ext_vec {x : FVec Ideal S1x1x128 .f32} {g : Fin 128 → EReal} (h : ∀ o, x (ix3 0 0 o) = g o) : x = fun y => g (y 2) := by
  funext y
  have hy : y = ix3 (y 0) (y 1) (y 2) := by funext d; match d with | ⟨0, _⟩ => rfl | ⟨1, _⟩ => rfl | ⟨2, _⟩ => rfl
  have h0 : y = ix3 0 0 (y 2) := hy.trans (congrArg₂ (fun (a : Fin 1) (b : Fin 1) => ix3 a b (y 2)) (Subsingleton.elim (α := Fin 1) _ _)
    (Subsingleton.elim (α := Fin 1) _ _))
  rw [h0]; exact h _

theorem pooled_at (p : In) (f : Fin 8) (o : Fin 128) (k : Fin 1024) (hk : k.val = 128 * f.val + o.val) : pooled p k = top2 p f o := by
  have hf : (⟨k.val / 128, by omega⟩ : Fin 8) = f := Fin.ext (by show k.val / 128 = f.val; omega)
  have ho : (⟨k.val % 128, by omega⟩ : Fin 128) = o := Fin.ext (by show k.val % 128 = o.val; omega)
  simp only [pooled, layer2, hf, ho, top2]

/-- Eight pieces side by side, each one filter's greatest features, are the pooled features. -/
theorem canon_pooled (p : In) (u0 u1 u2 u3 u4 u5 u6 u7 : FVec Ideal S1x1x128 .f32)
    (h0 : ∀ o, u0 (ix3 0 0 o) = top2 p 0 o) (h1 : ∀ o, u1 (ix3 0 0 o) = top2 p 1 o) (h2 : ∀ o, u2 (ix3 0 0 o) = top2 p 2 o)
    (h3 : ∀ o, u3 (ix3 0 0 o) = top2 p 3 o) (h4 : ∀ o, u4 (ix3 0 0 o) = top2 p 4 o) (h5 : ∀ o, u5 (ix3 0 0 o) = top2 p 5 o)
    (h6 : ∀ o, u6 (ix3 0 0 o) = top2 p 6 o) (h7 : ∀ o, u7 (ix3 0 0 o) = top2 p 7 o) :
    View.canon (Val := Elt Ideal) (s := S1x1x1024) (e := .f32) [⟨r0_73, u7⟩, ⟨r0_72, u6⟩, ⟨r0_71, u5⟩, ⟨r0_70, u4⟩, ⟨r0_69, u3⟩, ⟨r0_68, u2⟩, ⟨r0_67, u1⟩, ⟨r0_66, u0⟩]
      = fun y => pooled p (y 2) := by
  have key : ∀ (f : Fin 8) (u : FVec Ideal S1x1x128 .f32) (_ : ∀ o, u (ix3 0 0 o) = top2 p f o) (x : S1x1x128.Idx) (k : Fin 1024)
      (_ : k.val = 128 * f.val + (x 2).val), u x = pooled p k := fun f u hu x k hk => by
    rw [pooled_at p f (x 2) k hk, ext_vec hu]
  have hall : ∀ q ∈ ([⟨r0_73, u7⟩, ⟨r0_72, u6⟩, ⟨r0_71, u5⟩, ⟨r0_70, u4⟩, ⟨r0_69, u3⟩, ⟨r0_68, u2⟩, ⟨r0_67, u1⟩, ⟨r0_66, u0⟩] : List (View.Piece (Elt Ideal) S1x1x1024 .f32)),
      ∀ x : q.1.shape.Idx, q.2 x = (fun y : S1x1x1024.Idx => (pooled p (y 2) : Elt Ideal .f32)) (q.1.emb x) := by
    simp only [List.forall_mem_cons]
    refine ⟨fun x => key 7 _ h7 x _ ?_, fun x => key 6 _ h6 x _ ?_, fun x => key 5 _ h5 x _ ?_, fun x => key 4 _ h4 x _ ?_,
      fun x => key 3 _ h3 x _ ?_, fun x => key 2 _ h2 x _ ?_, fun x => key 1 _ h1 x _ ?_, fun x => key 0 _ h0 x _ ?_,
      fun _ h => absurd h List.not_mem_nil⟩ <;>
    · rw [Rect.emb_apply]
      show _ + 1 * (x 2).val = _
      rw [Nat.one_mul]
      rfl
  funext y
  have hc := cover0_16 (F := Ideal) u7 u6 u5 u4 u3 u2 u1 u0 y
  generalize ([⟨r0_73, u7⟩, ⟨r0_72, u6⟩, ⟨r0_71, u5⟩, ⟨r0_70, u4⟩, ⟨r0_69, u3⟩, ⟨r0_68, u2⟩, ⟨r0_67, u1⟩, ⟨r0_66, u0⟩] : List (View.Piece (Elt Ideal) S1x1x1024 .f32)) = L at hall hc ⊢
  exact View.canon_apply_of_pieces (Val := Elt Ideal) (S := S1x1x1024) (e := .f32) (fun y : S1x1x1024.Idx => (pooled p (y 2) : Elt Ideal .f32)) L hall y hc

/-- The buffer the eight stores fill holds the pooled features. -/
theorem pooled_eq (h : Holds p B) : B.ap out0_16 = fun y => pooled p (y 2) := by
  have s := scale2 h
  obtain ⟨a0, a1, a2, a3, a4, a5, a6, a7⟩ := weights2 h
  obtain ⟨l0, l1, l2, l3, l4, l5, l6, l7⟩ := linear2 h
  simp only [Blk.ap] at s a0 a1 a2 a3 a4 a5 a6 a7 l0 l1 l2 l3 l4 l5 l6 l7 ⊢
  unfold out0_16
  rw [a0, a1, a2, a3, a4, a5, a6, a7, l0, l1, l2, l3, l4, l5, l6, l7]
  refine canon_pooled p _ _ _ _ _ _ _ _ (fun o => ?_) (fun o => ?_) (fun o => ?_) (fun o => ?_) (fun o => ?_) (fun o => ?_)
    (fun o => ?_) (fun o => ?_)
  all_goals
    simp only [k0_pay167, k0_pay168, k0_pay169, k0_pay170, k0_pay171, k0_pay172, k0_pay173, k0_pay174, k0_pay1, k0_pay2, k0_pay162,
      k0_pay163, k0_pay164, k0_pay165, k0_pay166, s]
    pointwise
    simp only [sq_apply, arr_apply, lit_bot]
    exact congrArg (fun g => univ.fold max ⊥ g) (funext fun i => gather_second _ i o)

end Cert.Net

end
-- ==== Proof.Whole.lean ====
/-
  The whole batch: the real arguments of the call, the network input of one batch element, and the scores the call
  returns as one function of the arguments.
-/
module

public import proofs.«01_k».proof.Proof.Layers

@[expose] public section

noncomputable section

namespace Cert.Net

open Finset Idealize.ShloMosaic

/-- The call's arguments, the classifier's apart: real but for the Gaussians' means and widths and the second convolution's
linear maps. -/
structure All where
  v : Fin 64 → Fin 100 → Fin 2048 → ℝ
  b : Fin 64 → Fin 100 → Fin 4 → ℝ
  q : Fin 64 → Fin 1024 → ℝ
  w1 : Fin 3076 → Fin 512 → ℝ
  b1 : Fin 512 → ℝ
  w2 : Fin 512 → Fin 512 → ℝ
  b2 : Fin 512 → ℝ
  c1 : Fin 8 → Fin 2052 → Fin 256 → ℝ
  mr1 : Fin 8 → EReal
  mt1 : Fin 8 → EReal
  pr1 : Fin 8 → EReal
  pt1 : Fin 8 → EReal
  c2 : Fin 8 → Fin 2048 → Fin 128 → EReal
  mr2 : Fin 8 → EReal
  mt2 : Fin 8 → EReal
  pr2 : Fin 8 → EReal
  pt2 : Fin 8 → EReal

/-- One batch element. -/
def All.at (A : All) (n : Fin 64) : In :=
  ⟨A.v n, A.b n, A.q n, A.w1, A.b1, A.w2, A.b2, A.c1, A.mr1, A.mt1, A.pr1, A.pt1, A.c2, A.mr2, A.mt2, A.pr2, A.pt2⟩

/-- An array of each rank. -/
abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal

/-- The argument arrays hold the arguments `A`. -/
structure Args (A : All) (a0 : Arr3 64 100 2048) (a1 : Arr3 64 100 4) (a2 : Arr2 64 1024) (a4 : Arr2 3076 512) (a5 : Arr1 512)
    (a6 : Arr2 512 512) (a7 : Arr1 512) (a8 : Arr3 8 2052 256) (a9 a10 a11 a12 : Arr1 8) (a13 : Arr3 8 2048 128)
    (a14 a15 a16 a17 : Arr1 8) : Prop where
  v : ∀ n i d, a0 (ix3 n i d) = (A.v n i d : EReal)
  b : ∀ n i d, a1 (ix3 n i d) = (A.b n i d : EReal)
  q : ∀ n d, a2 (ix2 n d) = (A.q n d : EReal)
  w1 : ∀ d k, a4 (ix2 d k) = (A.w1 d k : EReal)
  b1 : ∀ k, a5 (ix1 k) = (A.b1 k : EReal)
  w2 : ∀ d k, a6 (ix2 d k) = (A.w2 d k : EReal)
  b2 : ∀ k, a7 (ix1 k) = (A.b2 k : EReal)
  c1 : ∀ f d o, a8 (ix3 f d o) = (A.c1 f d o : EReal)
  mr1 : ∀ f, a9 (ix1 f) = A.mr1 f
  mt1 : ∀ f, a10 (ix1 f) = A.mt1 f
  pr1 : ∀ f, a11 (ix1 f) = A.pr1 f
  pt1 : ∀ f, a12 (ix1 f) = A.pt1 f
  c2 : ∀ f d o, a13 (ix3 f d o) = A.c2 f d o
  mr2 : ∀ f, a14 (ix1 f) = A.mr2 f
  mt2 : ∀ f, a15 (ix1 f) = A.mt2 f
  pr2 : ∀ f, a16 (ix1 f) = A.pr2 f
  pt2 : ∀ f, a17 (ix1 f) = A.pt2 f

/-- The classifier over pooled features `h` and the question's features. -/
def classify (h a2 : Arr2 64 1024) (a18 : Arr2 1024 2048) (a19 : Arr1 2048) (a20 : Arr2 2048 3129) (a21 : Arr1 3129) : Arr2 64 3129 :=
  fun y => (∑ k : Fin 2048, max ((∑ d : Fin 1024, h (ix2 (y 0) d) * max (a2 (ix2 (y 0) d)) 0 * a18 (ix2 d k)) + a19 (ix1 k)) 0
    * a20 (ix2 k (y 1))) + a21 (ix1 (y 1))

/-- The pooled features of the batch. -/
def features (A : All) : Arr2 64 1024 := fun y => pooled (A.at (y 0)) (y 1)

end Cert.Net
-- ==== Proof.Blocks.lean ====
/-
  What the fused kernel's windows hold: the host line before it computes the boxes' centres, cuts the weight matrices and
  packs each layer's Gaussians; at grid point `t` the blocks hold batch element `t`.
-/
module

public import proofs.«01_k».proof.Proof.Whole
public import Idealize.ShloMosaic.Lib.Pipeline.ValueKit

@[expose] public section

noncomputable section

namespace Cert.Net

open Finset Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The device's argument arrays hold the real arguments `A`. -/
abbrev Loaded (A : All) : Prop :=
  Args A (m (c.tc.loc main_arg0)) (m (c.tc.loc main_arg1)) (m (c.tc.loc main_arg2)) (m (c.tc.loc main_arg4))
    (m (c.tc.loc main_arg5)) (m (c.tc.loc main_arg6)) (m (c.tc.loc main_arg7)) (m (c.tc.loc main_arg8))
    (m (c.tc.loc main_arg9)) (m (c.tc.loc main_arg10)) (m (c.tc.loc main_arg11)) (m (c.tc.loc main_arg12))
    (m (c.tc.loc main_arg13)) (m (c.tc.loc main_arg14)) (m (c.tc.loc main_arg15)) (m (c.tc.loc main_arg16))
    (m (c.tc.loc main_arg17))

/-! ### Each window's block index -/

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0] := (by decide +kernel : ∀ t : Fin grid0.N, _)
theorem idx11 : ∀ t : Fin cfg0.N, win0_11.index t = ![0, 0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0, 0] := (by decide +kernel : ∀ t : Fin grid0.N, _)
theorem idx14 : ∀ t : Fin cfg0.N, win0_14.index t = ![0, 0, 0] := (by decide +kernel : ∀ t : Fin grid0.N, _)
theorem idx15 : ∀ t : Fin cfg0.N, win0_15.index t = ![0, 0, 0] := (by decide +kernel : ∀ t : Fin grid0.N, _)
theorem idx16 : ∀ t : Fin cfg0.N, win0_16.index t = ![t.val, 0, 0] := (by decide +kernel : ∀ t : Fin grid0.N, _)

/-! ### The arrays the host line leaves -/

/-- The host line up to the first pack, and its rest. -/
theorem line_split (k : ℕ) (V : Valuation τ sig (Elt Ideal)) :
    StableHlo.after hostOps0 V = StableHlo.after (hostOps0.drop k) (StableHlo.after (hostOps0.take k) V) := by
  rw [← StableHlo.after_append, List.take_append_drop]

/-- Four rows stacked, read at each. -/
theorem pack_at (y0 y1 y2 y3 : FVec Ideal S1x8 .f32) (f : Fin 8) :
    shapeCast S4x8x1 (concatenate S4x8 0 [⟨S1x8, y0⟩, ⟨S1x8, y1⟩, ⟨S1x8, y2⟩, ⟨S1x8, y3⟩] concatenates_S1x8_S1x8_S1x8_S1x8_S4x8_d0)
      shapeCasts_S4x8_S4x8x1 (ix3 0 f 0) = y0 (ix2 0 f) ∧
    shapeCast S4x8x1 (concatenate S4x8 0 [⟨S1x8, y0⟩, ⟨S1x8, y1⟩, ⟨S1x8, y2⟩, ⟨S1x8, y3⟩] concatenates_S1x8_S1x8_S1x8_S1x8_S4x8_d0)
      shapeCasts_S4x8_S4x8x1 (ix3 1 f 0) = y1 (ix2 0 f) ∧
    shapeCast S4x8x1 (concatenate S4x8 0 [⟨S1x8, y0⟩, ⟨S1x8, y1⟩, ⟨S1x8, y2⟩, ⟨S1x8, y3⟩] concatenates_S1x8_S1x8_S1x8_S1x8_S4x8_d0)
      shapeCasts_S4x8_S4x8x1 (ix3 2 f 0) = y2 (ix2 0 f) ∧
    shapeCast S4x8x1 (concatenate S4x8 0 [⟨S1x8, y0⟩, ⟨S1x8, y1⟩, ⟨S1x8, y2⟩, ⟨S1x8, y3⟩] concatenates_S1x8_S1x8_S1x8_S1x8_S4x8_d0)
      shapeCasts_S4x8_S4x8x1 (ix3 3 f 0) = y3 (ix2 0 f) := by
  refine ⟨?_, ?_, ?_, ?_⟩ <;> pointwise

theorem line29 (V : Valuation τ sig (Elt Ideal)) : StableHlo.after (hostOps0.drop 33) V (Proc.devRef .tc main_v29) =
    shapeCast S4x8x1 (concatenate S4x8 0 [⟨S1x8, (V (Proc.devRef .tc main_v24) : FVec Ideal S1x8 .f32)⟩, ⟨S1x8, (V (Proc.devRef .tc main_v25) : FVec Ideal S1x8 .f32)⟩,
      ⟨S1x8, (V (Proc.devRef .tc main_v26) : FVec Ideal S1x8 .f32)⟩, ⟨S1x8, (V (Proc.devRef .tc main_v27) : FVec Ideal S1x8 .f32)⟩] concatenates_S1x8_S1x8_S1x8_S1x8_S4x8_d0)
      shapeCasts_S4x8_S4x8x1 := by
  simp only [hostOps0, List.drop_succ_cons, List.drop_zero]
  after_results
  rfl

theorem line45 (V : Valuation τ sig (Elt Ideal)) : StableHlo.after (hostOps0.drop 53) V (Proc.devRef .tc main_v45) =
    shapeCast S4x8x1 (concatenate S4x8 0 [⟨S1x8, (V (Proc.devRef .tc main_v40) : FVec Ideal S1x8 .f32)⟩, ⟨S1x8, (V (Proc.devRef .tc main_v41) : FVec Ideal S1x8 .f32)⟩,
      ⟨S1x8, (V (Proc.devRef .tc main_v42) : FVec Ideal S1x8 .f32)⟩, ⟨S1x8, (V (Proc.devRef .tc main_v43) : FVec Ideal S1x8 .f32)⟩] concatenates_S1x8_S1x8_S1x8_S1x8_S4x8_d0)
      shapeCasts_S4x8_S4x8x1 := by
  simp only [hostOps0, List.drop_succ_cons, List.drop_zero]
  after_results
  rfl

/-- Half the reciprocal of a Gaussian's squared width, as the host line computes it, in a row. -/
def width (x : FVec Ideal S8 .f32) : FVec Ideal S1x8 .f32 :=
  broadcastInDim S1x8 ![1] bcast_S8_S1x8_1 (Host.divf (broadcastInDim S8 ![] bcast_S_S8 (constant S_ FTy.f32 1056964608#32))
    (addf (broadcastInDim S8 ![] bcast_S_S8 (constant S_ FTy.f32 674505948#32)) (mulf x x)))

theorem width_at {x : FVec Ideal S8 .f32} {p : Fin 8 → EReal} (h : ∀ f, x (ix1 f) = p f) (f : Fin 8) :
    width x (ix2 0 f) = narrow (p f) := by
  pointwise [width]
  rw [h, lit_half, lit_eps]
  rfl

/-- A row of a pack that is an argument itself. -/
def given (x : FVec Ideal S8 .f32) : FVec Ideal S1x8 .f32 := broadcastInDim S1x8 ![1] bcast_S8_S1x8_1 x

theorem given_at {x : FVec Ideal S8 .f32} {p : Fin 8 → EReal} (h : ∀ f, x (ix1 f) = p f) (f : Fin 8) :
    given x (ix2 0 f) = p f := by
  pointwise [given]
  exact h f

theorem line24 : StableHlo.after (hostOps0.take 33) (W0 m ρ c) (Proc.devRef .tc main_v24) = given (m (c.tc.loc main_arg9)) := by
  simp only [hostOps0, List.take_succ_cons, List.take_zero]
  after_results
  rfl

theorem line25 : StableHlo.after (hostOps0.take 33) (W0 m ρ c) (Proc.devRef .tc main_v25) = given (m (c.tc.loc main_arg10)) := by
  simp only [hostOps0, List.take_succ_cons, List.take_zero]
  after_results
  rfl

theorem line26 : StableHlo.after (hostOps0.take 33) (W0 m ρ c) (Proc.devRef .tc main_v26) = width (m (c.tc.loc main_arg11)) := by
  simp only [hostOps0, List.take_succ_cons, List.take_zero]
  after_results
  rfl

theorem line27 : StableHlo.after (hostOps0.take 33) (W0 m ρ c) (Proc.devRef .tc main_v27) = width (m (c.tc.loc main_arg12)) := by
  simp only [hostOps0, List.take_succ_cons, List.take_zero]
  after_results
  rfl

theorem line40 : StableHlo.after (hostOps0.take 53) (W0 m ρ c) (Proc.devRef .tc main_v40) = given (m (c.tc.loc main_arg14)) := by
  simp only [hostOps0, List.take_succ_cons, List.take_zero]
  after_results
  rfl

theorem line41 : StableHlo.after (hostOps0.take 53) (W0 m ρ c) (Proc.devRef .tc main_v41) = given (m (c.tc.loc main_arg15)) := by
  simp only [hostOps0, List.take_succ_cons, List.take_zero]
  after_results
  rfl

theorem line42 : StableHlo.after (hostOps0.take 53) (W0 m ρ c) (Proc.devRef .tc main_v42) = width (m (c.tc.loc main_arg16)) := by
  simp only [hostOps0, List.take_succ_cons, List.take_zero]
  after_results
  rfl

theorem line43 : StableHlo.after (hostOps0.take 53) (W0 m ρ c) (Proc.devRef .tc main_v43) = width (m (c.tc.loc main_arg17)) := by
  simp only [hostOps0, List.take_succ_cons, List.take_zero]
  after_results
  rfl

/-! ### A block's element -/

/-- The batch element of a grid point. -/
abbrev pt (t : Fin cfg0.N) : Fin 64 := ⟨t.val, lt_of_lt_of_eq t.isLt N_0⟩

variable {m} {c} {A : All}

theorem blk0 (h : Loaded m c A) (t : Fin cfg0.N) (i : Fin 100) (d : Fin 2048) :
    iblk0 (V1 m ρ) c 0 t (ix3 0 i d) = (A.v (pt t) i d : EReal) := by
  blk_simp [iblk0]
  refine (congrFun (W1_args m ρ c main_arg0 (by decide)) _).trans ?_
  rw [show (win0_0.blk t).view.emb (ix3 0 i d) = ix3 (pt t) i d by blk_ext [idx0]]
  exact h.v _ _ _

theorem blk1 (h : Loaded m c A) (t : Fin cfg0.N) (i : Fin 100) (d : Fin 4) :
    iblk0 (V1 m ρ) c 1 t (ix3 0 i d) = (A.b (pt t) i d : EReal) := by
  blk_simp [iblk0]
  refine (congrFun (W1_args m ρ c main_arg1 (by decide)) _).trans ?_
  rw [show (win0_1.blk t).view.emb (ix3 0 i d) = ix3 (pt t) i d by blk_ext [idx1]]
  exact h.b _ _ _

theorem blk8 (h : Loaded m c A) (t : Fin cfg0.N) (k : Fin 512) :
    iblk0 (V1 m ρ) c 8 t (ix1 k) = (A.b1 k : EReal) := by
  blk_simp [iblk0]
  refine (congrFun (W1_args m ρ c main_arg5 (by decide)) _).trans ?_
  rw [show (win0_8.blk t).view.emb (ix1 k) = ix1 k by blk_ext [idx8]]
  exact h.b1 _

theorem blk9 (h : Loaded m c A) (t : Fin cfg0.N) (d k : Fin 512) :
    iblk0 (V1 m ρ) c 9 t (ix2 d k) = (A.w2 d k : EReal) := by
  blk_simp [iblk0]
  refine (congrFun (W1_args m ρ c main_arg6 (by decide)) _).trans ?_
  rw [show (win0_9.blk t).view.emb (ix2 d k) = ix2 d k by blk_ext [idx9]]
  exact h.w2 _ _

theorem blk10 (h : Loaded m c A) (t : Fin cfg0.N) (k : Fin 512) :
    iblk0 (V1 m ρ) c 10 t (ix1 k) = (A.b2 k : EReal) := by
  blk_simp [iblk0]
  refine (congrFun (W1_args m ρ c main_arg7 (by decide)) _).trans ?_
  rw [show (win0_10.blk t).view.emb (ix1 k) = ix1 k by blk_ext [idx10]]
  exact h.b2 _

theorem blk2 (h : Loaded m c A) (t : Fin cfg0.N) (d : Fin 1024) :
    iblk0 (V1 m ρ) c 2 t (ix3 0 0 d) = (A.q (pt t) d : EReal) := by
  blk_simp [iblk0]
  have e : W1 m ρ c (Proc.devRef .tc main_v46) = shapeCast S64x1x1024 (m (c.tc.loc main_arg2)) shapeCasts_S64x1024_S64x1x1024 := by
    after_results
    rfl
  refine (congrFun e _).trans ?_
  rw [show (win0_2.blk t).view.emb (ix3 0 0 d) = ix3 (pt t) 0 d by blk_ext [idx2]]
  generalize pt t = n
  pointwise
  exact h.q _ _

theorem blk3 (h : Loaded m c A) (t : Fin cfg0.N) (i : Fin 100) (a : Fin 2) :
    iblk0 (V1 m ρ) c 3 t (ix3 0 i a) = (cen (A.at (pt t)) i a : EReal) := by
  blk_simp [iblk0]
  have e : W1 m ρ c (Proc.devRef .tc main_v4) = mulf (F := Ideal) (addf
        (extractStridedSlice S64x100x2 ![0, 0, 2] (m (c.tc.loc main_arg1) : FVec Ideal S64x100x4 .f32) slices_S64x100x4_S64x100x2_0_0_2)
        (extractStridedSlice S64x100x2 ![0, 0, 0] (m (c.tc.loc main_arg1) : FVec Ideal S64x100x4 .f32) slices_S64x100x4_S64x100x2_0_0_0))
      (broadcastInDim S64x100x2 ![] bcast_S_S64x100x2 (constant S_ FTy.f32 1056964608#32)) := by
    after_results
  refine (congrFun e _).trans ?_
  rw [show (win0_3.blk t).view.emb (ix3 0 i a) = ix3 (pt t) i a by blk_ext [idx3]]
  generalize pt t = n
  pointwise
  rw [h.b, h.b, lit_half, ← EReal.coe_add, ← EReal.coe_mul]
  rfl

theorem blk4 (h : Loaded m c A) (t : Fin cfg0.N) (i : Fin 100) (a : Fin 2) :
    iblk0 (V1 m ρ) c 4 t (ix3 0 a i) = (cen (A.at (pt t)) i a : EReal) := by
  blk_simp [iblk0]
  have e : W1 m ρ c (Proc.devRef .tc main_v5) = transpose S64x2x100 [0, 2, 1] (mulf (F := Ideal) (addf
        (extractStridedSlice S64x100x2 ![0, 0, 2] (m (c.tc.loc main_arg1) : FVec Ideal S64x100x4 .f32) slices_S64x100x4_S64x100x2_0_0_2)
        (extractStridedSlice S64x100x2 ![0, 0, 0] (m (c.tc.loc main_arg1) : FVec Ideal S64x100x4 .f32) slices_S64x100x4_S64x100x2_0_0_0))
      (broadcastInDim S64x100x2 ![] bcast_S_S64x100x2 (constant S_ FTy.f32 1056964608#32))) transposes_S64x100x2_S64x2x100_0_2_1 := by
    after_results
  refine (congrFun e _).trans ?_
  rw [show (win0_4.blk t).view.emb (ix3 0 a i) = ix3 (pt t) a i by blk_ext [idx4]]
  generalize pt t = n
  pointwise
  rw [h.b, h.b, lit_half, ← EReal.coe_add, ← EReal.coe_mul]
  rfl

theorem blk5 (h : Loaded m c A) (t : Fin cfg0.N) (d : Fin 2048) (k : Fin 512) :
    iblk0 (V1 m ρ) c 5 t (ix2 d k) = (A.w1 ⟨d.val, by omega⟩ k : EReal) := by
  blk_simp [iblk0]
  have e : W1 m ρ c (Proc.devRef .tc main_v6) = extractStridedSlice S2048x512 ![0, 0] (m (c.tc.loc main_arg4) : FVec Ideal S3076x512 .f32) slices_S3076x512_S2048x512_0_0 := by
    after_results
  refine (congrFun e _).trans ?_
  rw [show (win0_5.blk t).view.emb (ix2 d k) = ix2 d k by blk_ext [idx5]]
  pointwise
  exact h.w1 _ _

theorem blk6 (h : Loaded m c A) (t : Fin cfg0.N) (d : Fin 4) (k : Fin 512) :
    iblk0 (V1 m ρ) c 6 t (ix2 d k) = (A.w1 ⟨2048 + d.val, by omega⟩ k : EReal) := by
  blk_simp [iblk0]
  have e : W1 m ρ c (Proc.devRef .tc main_v7) = extractStridedSlice S4x512 ![2048, 0] (m (c.tc.loc main_arg4) : FVec Ideal S3076x512 .f32) slices_S3076x512_S4x512_2048_0 := by
    after_results
  refine (congrFun e _).trans ?_
  rw [show (win0_6.blk t).view.emb (ix2 d k) = ix2 d k by blk_ext [idx6]]
  pointwise
  exact h.w1 _ _

theorem blk7 (h : Loaded m c A) (t : Fin cfg0.N) (d : Fin 1024) (k : Fin 512) :
    iblk0 (V1 m ρ) c 7 t (ix2 d k) = (A.w1 ⟨2052 + d.val, by omega⟩ k : EReal) := by
  blk_simp [iblk0]
  have e : W1 m ρ c (Proc.devRef .tc main_v8) = extractStridedSlice S1024x512 ![2052, 0] (m (c.tc.loc main_arg4) : FVec Ideal S3076x512 .f32) slices_S3076x512_S1024x512_2052_0 := by
    after_results
  refine (congrFun e _).trans ?_
  rw [show (win0_7.blk t).view.emb (ix2 d k) = ix2 d k by blk_ext [idx7]]
  pointwise
  exact h.w1 _ _

theorem blk13 (h : Loaded m c A) (t : Fin cfg0.N) (f : Fin 8) (d : Fin 2048) (o : Fin 256) :
    iblk0 (V1 m ρ) c 13 t (ix3 f d o) = (A.c1 f ⟨d.val, by omega⟩ o : EReal) := by
  blk_simp [iblk0]
  have e : W1 m ρ c (Proc.devRef .tc main_v10) = truncf (F := Ideal) .bf16 (extractStridedSlice S8x2048x256 ![0, 0, 0] (m (c.tc.loc main_arg8) : FVec Ideal S8x2052x256 .f32) slices_S8x2052x256_S8x2048x256_0_0_0) bitsLt_bf16_f32 := by
    after_results
  refine (congrFun e _).trans ?_
  rw [show (win0_13.blk t).view.emb (ix3 f d o) = ix3 f d o by blk_ext [idx13]]
  pointwise
  exact h.c1 _ _ _

theorem blk14 (h : Loaded m c A) (t : Fin cfg0.N) (f : Fin 8) (d : Fin 4) (o : Fin 256) :
    iblk0 (V1 m ρ) c 14 t (ix3 f d o) = (A.c1 f ⟨2048 + d.val, by omega⟩ o : EReal) := by
  blk_simp [iblk0]
  have e : W1 m ρ c (Proc.devRef .tc main_v12) = truncf (F := Ideal) .bf16 (extractStridedSlice S8x4x256 ![0, 2048, 0] (m (c.tc.loc main_arg8) : FVec Ideal S8x2052x256 .f32) slices_S8x2052x256_S8x4x256_0_2048_0) bitsLt_bf16_f32 := by
    after_results
  refine (congrFun e _).trans ?_
  rw [show (win0_14.blk t).view.emb (ix3 f d o) = ix3 f d o by blk_ext [idx14]]
  pointwise
  exact h.c1 _ _ _

theorem blk15 (h : Loaded m c A) (t : Fin cfg0.N) (f : Fin 8) (d : Fin 2048) (o : Fin 128) :
    iblk0 (V1 m ρ) c 15 t (ix3 f d o) = A.c2 f d o := by
  blk_simp [iblk0]
  have e : W1 m ρ c (Proc.devRef .tc main_v13) = truncf (F := Ideal) .bf16 (m (c.tc.loc main_arg13) : FVec Ideal S8x2048x128 .f32) bitsLt_bf16_f32 := by
    after_results
  refine (congrFun e _).trans ?_
  rw [show (win0_15.blk t).view.emb (ix3 f d o) = ix3 f d o by blk_ext [idx15]]
  pointwise
  exact h.c2 _ _ _

theorem pack_mr1 (h : Loaded m c A) (t : Fin cfg0.N) (f : Fin 8) :
    iblk0 (V1 m ρ) c 11 t (ix3 0 f 0) = A.mr1 f := by
  blk_simp [iblk0]
  refine (congrFun ((congrFun (line_split 33 _) _).trans (line29 _)) _).trans ?_
  rw [show (win0_11.blk t).view.emb (ix3 0 f 0) = ix3 0 f 0 by blk_ext [idx11]]
  refine (pack_at _ _ _ _ f).1.trans ?_
  rw [line24]
  exact given_at h.mr1 f

theorem pack_mt1 (h : Loaded m c A) (t : Fin cfg0.N) (f : Fin 8) :
    iblk0 (V1 m ρ) c 11 t (ix3 1 f 0) = A.mt1 f := by
  blk_simp [iblk0]
  refine (congrFun ((congrFun (line_split 33 _) _).trans (line29 _)) _).trans ?_
  rw [show (win0_11.blk t).view.emb (ix3 1 f 0) = ix3 1 f 0 by blk_ext [idx11]]
  refine (pack_at _ _ _ _ f).2.1.trans ?_
  rw [line25]
  exact given_at h.mt1 f

theorem pack_pr1 (h : Loaded m c A) (t : Fin cfg0.N) (f : Fin 8) :
    iblk0 (V1 m ρ) c 11 t (ix3 2 f 0) = narrow (A.pr1 f) := by
  blk_simp [iblk0]
  refine (congrFun ((congrFun (line_split 33 _) _).trans (line29 _)) _).trans ?_
  rw [show (win0_11.blk t).view.emb (ix3 2 f 0) = ix3 2 f 0 by blk_ext [idx11]]
  refine (pack_at _ _ _ _ f).2.2.1.trans ?_
  rw [line26]
  exact width_at h.pr1 f

theorem pack_pt1 (h : Loaded m c A) (t : Fin cfg0.N) (f : Fin 8) :
    iblk0 (V1 m ρ) c 11 t (ix3 3 f 0) = narrow (A.pt1 f) := by
  blk_simp [iblk0]
  refine (congrFun ((congrFun (line_split 33 _) _).trans (line29 _)) _).trans ?_
  rw [show (win0_11.blk t).view.emb (ix3 3 f 0) = ix3 3 f 0 by blk_ext [idx11]]
  refine (pack_at _ _ _ _ f).2.2.2.trans ?_
  rw [line27]
  exact width_at h.pt1 f

theorem pack_mr2 (h : Loaded m c A) (t : Fin cfg0.N) (f : Fin 8) :
    iblk0 (V1 m ρ) c 12 t (ix3 0 f 0) = A.mr2 f := by
  blk_simp [iblk0]
  refine (congrFun ((congrFun (line_split 53 _) _).trans (line45 _)) _).trans ?_
  rw [show (win0_12.blk t).view.emb (ix3 0 f 0) = ix3 0 f 0 by blk_ext [idx12]]
  refine (pack_at _ _ _ _ f).1.trans ?_
  rw [line40]
  exact given_at h.mr2 f

theorem pack_mt2 (h : Loaded m c A) (t : Fin cfg0.N) (f : Fin 8) :
    iblk0 (V1 m ρ) c 12 t (ix3 1 f 0) = A.mt2 f := by
  blk_simp [iblk0]
  refine (congrFun ((congrFun (line_split 53 _) _).trans (line45 _)) _).trans ?_
  rw [show (win0_12.blk t).view.emb (ix3 1 f 0) = ix3 1 f 0 by blk_ext [idx12]]
  refine (pack_at _ _ _ _ f).2.1.trans ?_
  rw [line41]
  exact given_at h.mt2 f

theorem pack_pr2 (h : Loaded m c A) (t : Fin cfg0.N) (f : Fin 8) :
    iblk0 (V1 m ρ) c 12 t (ix3 2 f 0) = narrow (A.pr2 f) := by
  blk_simp [iblk0]
  refine (congrFun ((congrFun (line_split 53 _) _).trans (line45 _)) _).trans ?_
  rw [show (win0_12.blk t).view.emb (ix3 2 f 0) = ix3 2 f 0 by blk_ext [idx12]]
  refine (pack_at _ _ _ _ f).2.2.1.trans ?_
  rw [line42]
  exact width_at h.pr2 f

theorem pack_pt2 (h : Loaded m c A) (t : Fin cfg0.N) (f : Fin 8) :
    iblk0 (V1 m ρ) c 12 t (ix3 3 f 0) = narrow (A.pt2 f) := by
  blk_simp [iblk0]
  refine (congrFun ((congrFun (line_split 53 _) _).trans (line45 _)) _).trans ?_
  rw [show (win0_12.blk t).view.emb (ix3 3 f 0) = ix3 3 f 0 by blk_ext [idx12]]
  refine (pack_at _ _ _ _ f).2.2.2.trans ?_
  rw [line43]
  exact width_at h.pt2 f

/-- The blocks of grid point `t`, from the arrays as the kernel finds them. -/
abbrev blocks (V : (c : Dev nD) → (b : Ref sig .tc) → Buf (Elt Ideal) ((c : Thread nD τ).loc b)) (c : Dev nD) (t : Fin cfg0.N) : Blk :=
  ⟨iblk0 V c 0 t, iblk0 V c 1 t, iblk0 V c 2 t, iblk0 V c 3 t, iblk0 V c 4 t, iblk0 V c 5 t, iblk0 V c 6 t, iblk0 V c 7 t, iblk0 V c 8 t, iblk0 V c 9 t, iblk0 V c 10 t, iblk0 V c 11 t, iblk0 V c 12 t, iblk0 V c 13 t, iblk0 V c 14 t, iblk0 V c 15 t⟩

theorem holds_of {V : (c : Dev nD) → (b : Ref sig .tc) → Buf (Elt Ideal) ((c : Thread nD τ).loc b)} {c : Dev nD} {t : Fin cfg0.N} {p : In}
    (h_v : ∀ i d, iblk0 V c 0 t (ix3 0 i d) = (p.v i d : EReal))
    (h_b : ∀ i d, iblk0 V c 1 t (ix3 0 i d) = (p.b i d : EReal))
    (h_q : ∀ d, iblk0 V c 2 t (ix3 0 0 d) = (p.q d : EReal))
    (h_cenr : ∀ i a, iblk0 V c 3 t (ix3 0 i a) = (cen p i a : EReal))
    (h_cenc : ∀ i a, iblk0 V c 4 t (ix3 0 a i) = (cen p i a : EReal))
    (h_w1v : ∀ (d : Fin 2048) k, iblk0 V c 5 t (ix2 d k) = (p.w1 ⟨d.val, by omega⟩ k : EReal))
    (h_w1b : ∀ (d : Fin 4) k, iblk0 V c 6 t (ix2 d k) = (p.w1 ⟨2048 + d.val, by omega⟩ k : EReal))
    (h_w1q : ∀ (d : Fin 1024) k, iblk0 V c 7 t (ix2 d k) = (p.w1 ⟨2052 + d.val, by omega⟩ k : EReal))
    (h_b1 : ∀ k, iblk0 V c 8 t (ix1 k) = (p.b1 k : EReal))
    (h_w2 : ∀ d k, iblk0 V c 9 t (ix2 d k) = (p.w2 d k : EReal))
    (h_b2 : ∀ k, iblk0 V c 10 t (ix1 k) = (p.b2 k : EReal))
    (h_mr1 : ∀ f, iblk0 V c 11 t (ix3 0 f 0) = p.mr1 f)
    (h_mt1 : ∀ f, iblk0 V c 11 t (ix3 1 f 0) = p.mt1 f)
    (h_pr1 : ∀ f, iblk0 V c 11 t (ix3 2 f 0) = narrow (p.pr1 f))
    (h_pt1 : ∀ f, iblk0 V c 11 t (ix3 3 f 0) = narrow (p.pt1 f))
    (h_mr2 : ∀ f, iblk0 V c 12 t (ix3 0 f 0) = p.mr2 f)
    (h_mt2 : ∀ f, iblk0 V c 12 t (ix3 1 f 0) = p.mt2 f)
    (h_pr2 : ∀ f, iblk0 V c 12 t (ix3 2 f 0) = narrow (p.pr2 f))
    (h_pt2 : ∀ f, iblk0 V c 12 t (ix3 3 f 0) = narrow (p.pt2 f))
    (h_c1v : ∀ f (d : Fin 2048) o, iblk0 V c 13 t (ix3 f d o) = (p.c1 f ⟨d.val, by omega⟩ o : EReal))
    (h_c1b : ∀ f (d : Fin 4) o, iblk0 V c 14 t (ix3 f d o) = (p.c1 f ⟨2048 + d.val, by omega⟩ o : EReal))
    (h_c2 : ∀ f d o, iblk0 V c 15 t (ix3 f d o) = p.c2 f d o) :
    Holds p (blocks V c t) :=
  ⟨h_v, h_b, h_q, h_cenr, h_cenc, h_w1v, h_w1b, h_w1q, h_b1, h_w2, h_b2, h_mr1, h_mt1, h_pr1, h_pt1, h_mr2, h_mt2, h_pr2, h_pt2, h_c1v, h_c1b, h_c2⟩

/-- At grid point `t` the blocks hold batch element `t`. -/
theorem holds (h : Loaded m c A) (t : Fin cfg0.N) : Holds (A.at (pt t)) (blocks (V1 m ρ) c t) :=
  holds_of (blk0 ρ h t) (blk1 ρ h t) (blk2 ρ h t) (blk3 ρ h t) (blk4 ρ h t) (blk5 ρ h t) (blk6 ρ h t) (blk7 ρ h t) (blk8 ρ h t) (blk9 ρ h t) (blk10 ρ h t) (pack_mr1 ρ h t) (pack_mt1 ρ h t) (pack_pr1 ρ h t) (pack_pt1 ρ h t) (pack_mr2 ρ h t) (pack_mt2 ρ h t) (pack_pr2 ρ h t) (pack_pt2 ρ h t) (blk13 ρ h t) (blk14 ρ h t) (blk15 ρ h t)

end Cert.Net
-- ==== Proof.KernelRun.lean ====
/-
  The kernel's result: the fused kernel fills one row of pooled features at each grid point, the host line drops the unit
  axis, and the classifier's kernel turns the features into the scores.
-/
module

public import proofs.«01_k».proof.Proof.Blocks

@[expose] public section

noncomputable section

namespace Cert.Net

open Finset Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds Cert.KernelIdeal Cert.KernelIdeal.Gen

variable {m : (ℓ : Loc nD τ sig) → Buf (Elt Ideal) ℓ} (ρ : Dev nD → PrngReg) {c : Dev nD} {A : All}

/-- The fused kernel's rows of pooled features. -/
def rows (A : All) : Arr3 64 1 1024 := fun y => pooled (A.at (y 0)) (y 2)

theorem rows_at {y : (⟨3, ![64, 1, 1024]⟩ : Shape).Idx} {n : Fin 64} {k : Fin 1024} (h0 : y 0 = n) (h2 : y 2 = k) :
    rows A y = pooled (A.at n) k := by
  subst h0 h2
  rfl

theorem fused_of {V : (c : Dev nD) → (b : Ref sig .tc) → Buf (Elt Ideal) ((c : Thread nD τ).loc b)}
    (h : ∀ t, Holds (A.at (pt t)) (blocks V c t)) : (dat0 V c).arrAt 16 cfg0.N = rows A := by
  refine (dat0 V c).arrAt_eq_of_covers 16 _ (by decide +kernel) fun t hf y => ?_
  blk_simp
  rw [after0_16]
  refine (congrFun (pooled_eq (h t)) y).trans (rows_at (Fin.ext ?_) (Fin.ext ?_)).symm
  · blk_simp [idx16]
  · blk_simp [idx16]

/-- The fused kernel's result array. -/
theorem fused (h : Loaded m c A) : (dat0 (V1 m ρ) c).arrAt 16 cfg0.N = rows A := fused_of (holds ρ h)

/-- The classifier's feature operand. -/
theorem flat (h : Loaded m c A) : V3 m ρ c main_v48 = features A := by
  have e : W3 m ρ c (Proc.devRef .tc main_v48) = shapeCast S64x1024 (W2 m ρ c (Proc.devRef .tc main_v47)) shapeCasts_S64x1x1024_S64x1024 := by
    after_results
    rfl
  refine e.trans ?_
  have e' : W2 m ρ c (Proc.devRef .tc main_v47) = rows A := (W2_arr m ρ c 16).trans (fused ρ h)
  rw [e']
  funext y
  have hy : y = ix2 (y 0) (y 1) := by funext d; match d with | ⟨0, _⟩ => rfl | ⟨1, _⟩ => rfl
  rw [hy]
  pointwise [features, rows]

/-- The classifier's kernel over its six operands. -/
theorem out1_eq (x0 x1 : Vec Ideal S64x1024 .f32) (x2 : Vec Ideal S1024x2048 .f32) (x3 : Vec Ideal S2048 .f32)
    (x4 : Vec Ideal S2048x3129 .f32) (x5 : Vec Ideal S3129 .f32) : out1_6 x0 x1 x2 x3 x4 x5 = classify x0 x1 x2 x3 x4 x5 := by
  have hz2 : (![0, 0] : Fin 2 → Nat) = fun _ => 0 := funext fun a => by fin_cases a <;> rfl
  have hz1 : (![0] : Fin 1 → Nat) = fun _ => 0 := funext fun a => by fin_cases a; rfl
  unfold out1_6
  rw [View.canon_unit_zero hz2]
  rw [View.ld_unit_zero hz2, View.ld_unit_zero hz2, View.ld_unit_zero hz2, View.ld_unit_zero hz1, View.ld_unit_zero hz2,
    View.ld_unit_zero hz1]
  funext y
  have hy : y = ix2 (y 0) (y 1) := by funext d; match d with | ⟨0, _⟩ => rfl | ⟨1, _⟩ => rfl
  rw [hy]
  pointwise [k1_pay1, classify]

theorem one0 : ∀ t : Fin cfg1.N, win1_0.index t = ![0, 0] := (by decide +kernel : ∀ t : Fin grid1.N, _)
theorem one1 : ∀ t : Fin cfg1.N, win1_1.index t = ![0, 0] := (by decide +kernel : ∀ t : Fin grid1.N, _)
theorem one2 : ∀ t : Fin cfg1.N, win1_2.index t = ![0, 0] := (by decide +kernel : ∀ t : Fin grid1.N, _)
theorem one3 : ∀ t : Fin cfg1.N, win1_3.index t = ![0] := (by decide +kernel : ∀ t : Fin grid1.N, _)
theorem one4 : ∀ t : Fin cfg1.N, win1_4.index t = ![0, 0] := (by decide +kernel : ∀ t : Fin grid1.N, _)
theorem one5 : ∀ t : Fin cfg1.N, win1_5.index t = ![0] := (by decide +kernel : ∀ t : Fin grid1.N, _)
theorem one6 : ∀ t : Fin cfg1.N, win1_6.index t = ![0, 0] := (by decide +kernel : ∀ t : Fin grid1.N, _)

/-! ### The classifier's one grid point: each window is its whole array -/

section

variable (V : (c : Dev nD) → (b : Ref sig .tc) → Buf (Elt Ideal) ((c : Thread nD τ).loc b)) (c : Dev nD) (t : Fin cfg1.N)

theorem all0 : iblk1 V c 0 t = V c main_v48 := by
  funext y
  blk_simp [iblk1]
  exact congrArg _ (by blk_ext [one0])

theorem all1 : iblk1 V c 1 t = V c main_arg2 := by
  funext y
  blk_simp [iblk1]
  exact congrArg _ (by blk_ext [one1])

theorem all2 : iblk1 V c 2 t = V c main_arg18 := by
  funext y
  blk_simp [iblk1]
  exact congrArg _ (by blk_ext [one2])

theorem all3 : iblk1 V c 3 t = V c main_arg19 := by
  funext y
  blk_simp [iblk1]
  exact congrArg _ (by blk_ext [one3])

theorem all4 : iblk1 V c 4 t = V c main_arg20 := by
  funext y
  blk_simp [iblk1]
  exact congrArg _ (by blk_ext [one4])

theorem all5 : iblk1 V c 5 t = V c main_arg21 := by
  funext y
  blk_simp [iblk1]
  exact congrArg _ (by blk_ext [one5])

theorem scores_of : (dat1 V c).arrAt 6 cfg1.N = classify (V c main_v48) (V c main_arg2) (V c main_arg18) (V c main_arg19)
    (V c main_arg20) (V c main_arg21) := by
  refine (dat1 V c).arrAt_eq_of_covers 6 _ (by decide +kernel) fun t hf y => ?_
  blk_simp
  rw [after1_6, out1_eq, all0, all1, all2, all3, all4, all5]
  exact congrArg _ (by blk_ext [one6])

end

/-- The kernel's scores as a function of the argument arrays. -/
theorem scores (h : Loaded m c A) : W4 m ρ c (Proc.devRef .tc main_v49) = classify (features A) (m (c.tc.loc main_arg2))
    (m (c.tc.loc main_arg18)) (m (c.tc.loc main_arg19)) (m (c.tc.loc main_arg20)) (m (c.tc.loc main_arg21)) := by
  refine (W4_arr m ρ c 6).trans ((scores_of (V3 m ρ) c).trans ?_)
  rw [flat ρ h, show V3 m ρ c main_arg2 = m (c.tc.loc main_arg2) from W3_args m ρ c main_arg2 (by decide),
    show V3 m ρ c main_arg18 = m (c.tc.loc main_arg18) from W3_args m ρ c main_arg18 (by decide),
    show V3 m ρ c main_arg19 = m (c.tc.loc main_arg19) from W3_args m ρ c main_arg19 (by decide),
    show V3 m ρ c main_arg20 = m (c.tc.loc main_arg20) from W3_args m ρ c main_arg20 (by decide),
    show V3 m ρ c main_arg21 = m (c.tc.loc main_arg21) from W3_args m ρ c main_arg21 (by decide)]

variable (m)

set_option backward.isDefEq.respectTransparency.types false in
/-- Every run ends with the scores' array at what the last kernel left, the arguments unchanged and every counter at zero. -/
theorem kernel_run : θ_run defs (onTc (τ := τ) (main (F := Ideal))) ⟨m, fun _ => 0, ρ⟩ (fun r =>
    (∀ c : Dev nD, r.2.mem ((c.tc : Thread nD τ).loc main_v49) = W4 m ρ c (Proc.devRef .tc main_v49)
      ∧ ∀ b ∈ argRefs, r.2.mem ((c.tc : Thread nD τ).loc b) = m ((c.tc : Thread nD τ).loc b)) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => ⟨h c _ (mem_uc main_v49 (by decide)),
      fun b hb => (h c _ (mem_uc b ((by decide : ∀ b ∈ argRefs, ¬ (Proc.devRef .tc b : DevRef τ sig).isScoped) b hb))).trans (W4_args m ρ c b hb)⟩,
      funext fun g => hz g (.inr (no_unscoped g.2))⟩)

end Cert.Net
-- ==== Proof.RefGeo.lean ====
/-
  The reference's geometry: box centres, their differences, the polar coordinates of each pair of objects and the
  Gaussian weights normalised over the eight kernels.
-/
module

public import proofs.«01_k».proof.Proof.Whole
public import proofs.«01_k».proof.Proof.Gen.ReferenceIdeal.Read

@[expose] public section

noncomputable section

namespace Cert.Net

open Finset Idealize.ShloMosaic Idealize.ShloMosaic.StableHlo Cert.ReferenceIdeal Cert.ReferenceIdeal.Gen Cert.ReferenceIdeal.Read

variable {A : All} {x0 : FVec Ideal S64x100x2048 .f32} {x1 : FVec Ideal S64x100x4 .f32} {x2 : FVec Ideal S64x1024 .f32}
  {x4 : FVec Ideal S3076x512 .f32} {x5 : FVec Ideal S512 .f32} {x6 : FVec Ideal S512x512 .f32} {x7 : FVec Ideal S512 .f32}
  {x8 : FVec Ideal S8x2052x256 .f32} {x9 x10 x11 x12 : FVec Ideal S8 .f32} {x13 : FVec Ideal S8x2048x128 .f32}
  {x14 x15 x16 x17 : FVec Ideal S8 .f32}

variable (h : Args A x0 x1 x2 x4 x5 x6 x7 x8 x9 x10 x11 x12 x13 x14 x15 x16 x17)

theorem select_flag {α : Type} (P : Prop) [Decidable P] (a b : α) : Scalar.select (if P then 1#1 else 0#1) a b = if P then a else b := by
  by_cases hP : P <;> simp [hP, Scalar.select]

/-- The flag of the diagonal. -/
theorem same_flag (i j : Fin 100) :
    IntOp.cmpi CmpIPredicate.eq (IntOp.addi (BitVec.ofNat 32 i.val) 0#32) (BitVec.ofNat 32 j.val) = if i = j then 1#1 else 0#1 := by
  have hi : (BitVec.ofNat 32 i.val).toNat = i.val := Nat.mod_eq_of_lt (by omega)
  have hj : (BitVec.ofNat 32 j.val).toNat = j.val := Nat.mod_eq_of_lt (by omega)
  have e : (BitVec.ofNat 32 i.val = BitVec.ofNat 32 j.val) ↔ i = j := by
    rw [← BitVec.toNat_inj, hi, hj, Fin.ext_iff]
  simp only [IntOp.cmpi, IntOp.addi, BitVec.add_zero]
  by_cases hij : i = j
  · subst hij; simp
  · rw [if_neg hij, beq_eq_false_iff_ne.mpr (fun hh => hij (e.mp hh))]; rfl

theorem coe_ite (P : Prop) [Decidable P] (a b : ℝ) : ((if P then a else b : ℝ) : EReal) = if P then (a : EReal) else b := by
  split <;> rfl

/-- The exponent of one factor of a weight. -/
theorem factor (d x : EReal) : Ideal.div (Ideal.ofBits .f32 0xBF000000#32 * (d * d)) (Ideal.ofBits .f32 0x283424DC#32 + x * x)
    = (0 - d * d) * narrow x := by
  unfold narrow
  rw [lit_eps, lit_neg_half, div_width, div_width, zero_sub, EReal.coe_neg, EReal.neg_mul, EReal.neg_mul, EReal.neg_mul,
    mul_comm ((1 / 2 : ℝ) : EReal) (d * d), mul_assoc (d * d)]

/-- The two exponentials of a weight are one. -/
theorem gauss_two (r t : ℝ) (mr mt pr pt : EReal) :
    Ideal.exp (Ideal.div (Ideal.ofBits .f32 0xBF000000#32 * (((r : EReal) - mr) * ((r : EReal) - mr)))
        (Ideal.ofBits .f32 0x283424DC#32 + pr * pr))
      * Ideal.exp (Ideal.div (Ideal.ofBits .f32 0xBF000000#32
          * (min (FloatOps.absf (F := Ideal) (φ := .f32) ((t : EReal) - mt)) (FloatOps.absf (F := Ideal) (φ := .f32) (Ideal.ofBits .f32 0x40C90FDB#32 - FloatOps.absf (F := Ideal) (φ := .f32) ((t : EReal) - mt)))
            * min (FloatOps.absf (F := Ideal) (φ := .f32) ((t : EReal) - mt)) (FloatOps.absf (F := Ideal) (φ := .f32) (Ideal.ofBits .f32 0x40C90FDB#32 - FloatOps.absf (F := Ideal) (φ := .f32) ((t : EReal) - mt)))))
        (Ideal.ofBits .f32 0x283424DC#32 + pt * pt))
      = (gauss r t mr mt pr pt : EReal) := by
  rw [factor, factor, exp_sum (falling _ _) (falling _ _), lit_turn, ← gauss_eq, power_eq]
  rfl

include h

theorem centre_ref (n : Fin 64) (i : Fin 100) (a : Fin 2) : val_main_v5 (F := Ideal) x1 (ix3 n i a) = (cen (A.at n) i a : EReal) := by
  pointwise [val_main_v5, val_main_v3, val_main_v1, val_main_v2, val_main_v4, val_main_cst]
  rw [h.b, h.b, lit_half, ← EReal.coe_add, ← EReal.coe_mul]
  rfl

theorem diff_ref (n : Fin 64) (i j : Fin 100) (a : Fin 2) : val_main_v10 (F := Ideal) x1 (ix4 n i j a) = (diff (A.at n) a i j : EReal) := by
  pointwise [val_main_v10, val_main_v8, val_main_v9, val_main_v6, val_main_v7]
  rw [centre_ref h, centre_ref h, ← EReal.coe_sub]
  rfl

theorem first_ref (n : Fin 64) (i j : Fin 100) :
    val_main_v19 (F := Ideal) x1 (ix3 n i j) = ((if i = j then 1 else diff (A.at n) 0 i j : ℝ) : EReal) := by
  pointwise [val_main_v19, val_main_v18, val_main_v17, val_main_call0_v1, val_main_call0_v2, val_main_call0_v0, val_main_cst_0, val_main_v16, val_main_v15, val_main_v14, val_main_v12, val_main_v11, val_main_v13, val_main_c, id_eq]
  rw [same_flag, select_flag, diff_ref h, coe_ite, EReal.coe_one]

theorem second_ref (n : Fin 64) (i j : Fin 100) :
    val_main_v22 (F := Ideal) x1 (ix3 n i j) = ((if i = j then 1 else diff (A.at n) 1 i j : ℝ) : EReal) := by
  pointwise [val_main_v22, val_main_v21, val_main_v20, val_main_call1_v1, val_main_call1_v2, val_main_call1_v0, val_main_cst_1, val_main_v16, val_main_v15, val_main_v14, val_main_v12, val_main_v11, val_main_v13, val_main_c, id_eq]
  rw [same_flag, select_flag, diff_ref h, coe_ite, EReal.coe_one]

theorem rho_ref (n : Fin 64) (i j : Fin 100) : val_main_v27 (F := Ideal) x1 (ix3 n i j) = (rho (A.at n) i j : EReal) := by
  pointwise [val_main_v27, val_main_v26, val_main_v25, val_main_v24, val_main_v23, val_main_call2_v1, val_main_call2_v2, val_main_call2_v0, val_main_cst_2, val_main_v16, val_main_v15, val_main_v14, val_main_v12, val_main_v11, val_main_v13, val_main_c, id_eq]
  rw [same_flag, select_flag, first_ref h, second_ref h, ← EReal.coe_zero, ← EReal.coe_mul, ← EReal.coe_mul, ← EReal.coe_add,
    ← coe_sqrt (add_nonneg (mul_self_nonneg _) (mul_self_nonneg _)), ← coe_ite]
  unfold rho
  by_cases hij : i = j
  · simp only [if_pos hij]
  · simp only [if_neg hij]

theorem theta_ref (n : Fin 64) (i j : Fin 100) : val_main_v29 (F := Ideal) x1 (ix3 n i j) = (theta (A.at n) i j : EReal) := by
  pointwise [val_main_v29, val_main_v28, val_main_call3_v1, val_main_call3_v2, val_main_call3_v0, val_main_cst_3, val_main_v16, val_main_v15, val_main_v14, val_main_v12, val_main_v11, val_main_v13, val_main_c, id_eq]
  rw [same_flag, select_flag, first_ref h, second_ref h, ← EReal.coe_zero, ← coe_angle, ← coe_ite]
  unfold theta
  by_cases hij : i = j
  · simp only [if_pos hij]
  · simp only [if_neg hij]

theorem rho_col (n : Fin 64) (i j : Fin 100) : val_main_v61 (F := Ideal) x1 (ix3 n i j) = (rho (A.at n) i j : EReal) := by
  pointwise [val_main_v61, val_main_v60, val_main_v32, val_main_v30, val_main_v31]
  exact rho_ref h n i j

theorem theta_col (n : Fin 64) (i j : Fin 100) : val_main_v64 (F := Ideal) x1 (ix3 n i j) = (theta (A.at n) i j : EReal) := by
  pointwise [val_main_v64, val_main_v63, val_main_v32, val_main_v30, val_main_v31]
  exact theta_ref h n i j

omit h

/-- The row of the flat table for a pair of objects. -/
def pos (n : Fin 64) (i j : Fin 100) : Fin 640000 := ⟨(n.val * 100 + i.val) * 100 + j.val, by omega⟩

theorem idx_pos (n : Fin 64) (i j : Fin 100) : idx_main_v62 (ix2 (pos n i j) 0) = ix3 n i j := by
  funext a
  match a with
  | ⟨0, _⟩ => exact Fin.ext (show (((n.val * 100 + i.val) * 100 + j.val) * 1 + 0) / 10000 = n.val by omega)
  | ⟨1, _⟩ => exact Fin.ext (show (((n.val * 100 + i.val) * 100 + j.val) * 1 + 0) / 100 % 100 = i.val by omega)
  | ⟨2, _⟩ => exact Fin.ext (show (((n.val * 100 + i.val) * 100 + j.val) * 1 + 0) % 100 = j.val by omega)

theorem idx_pos' (n : Fin 64) (i j : Fin 100) : idx_main_v65 (ix2 (pos n i j) 0) = ix3 n i j := idx_pos n i j

/-- The table of weights for any means and precisions. -/
theorem weight_ref (h : Args A x0 x1 x2 x4 x5 x6 x7 x8 x9 x10 x11 x12 x13 x14 x15 x16 x17) {y1 y2 y3 y4 : FVec Ideal S8 .f32} {mr mt pr pt : Fin 8 → EReal}
    (h1 : ∀ f, y1 (ix1 f) = mr f) (h2 : ∀ f, y2 (ix1 f) = mt f) (h3 : ∀ f, y3 (ix1 f) = pr f)
    (h4 : ∀ f, y4 (ix1 f) = pt f) (n : Fin 64) (i j : Fin 100) (f : Fin 8) :
    val_main_v101 (F := Ideal) x1 y1 y2 y3 y4 (ix2 (pos n i j) f) = (gauss (rho (A.at n) i j) (theta (A.at n) i j) (mr f) (mt f) (pr f) (pt f) : EReal) := by
  generalize hr : pos n i j = r
  pointwise [val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_cst_9, val_main_cst_10, val_main_cst_11, val_main_cst_12, val_main_cst_13]
  subst hr
  rw [val_main_v62_apply, val_main_v65_apply, idx_pos, idx_pos', rho_col h, theta_col h, h1, h2, h3, h4, gauss_two]
  exact if_neg fun hne => hne rfl

theorem weight_ref_second (y1 y2 y3 y4 : FVec Ideal S8 .f32) : val_main_v178 (F := Ideal) x1 y1 y2 y3 y4 = val_main_v101 (F := Ideal) x1 y1 y2 y3 y4 := by
  simp only [val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_call4_v1, val_main_call4_v0, val_main_cst_9, val_main_cst_10, val_main_cst_11, val_main_cst_12, val_main_cst_13, val_main_cst_14, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_call6_v1, val_main_call6_v0, val_main_cst_22, val_main_cst_23, val_main_cst_24, val_main_cst_25, val_main_cst_26, val_main_cst_27]

theorem normed_pos (n : Fin 64) (i j : Fin 100) (f : Fin 8) : idx_main_v108 (ix4 n i j f) = ix2 (pos n i j) f := by
  funext a
  match a with
  | ⟨0, _⟩ => exact Fin.ext (show (((n.val * 100 + i.val) * 100 + j.val) * 8 + f.val) / 8 = (n.val * 100 + i.val) * 100 + j.val by omega)
  | ⟨1, _⟩ => exact Fin.ext (show (((n.val * 100 + i.val) * 100 + j.val) * 8 + f.val) % 8 = f.val by omega)

/-- The weights divided by their sum over the kernels. -/
theorem normed_ref (h : Args A x0 x1 x2 x4 x5 x6 x7 x8 x9 x10 x11 x12 x13 x14 x15 x16 x17) {y1 y2 y3 y4 : FVec Ideal S8 .f32} {mr mt pr pt : Fin 8 → EReal}
    (h1 : ∀ f, y1 (ix1 f) = mr f) (h2 : ∀ f, y2 (ix1 f) = mt f) (h3 : ∀ f, y3 (ix1 f) = pr f)
    (h4 : ∀ f, y4 (ix1 f) = pt f) (n : Fin 64) (i j : Fin 100) (f : Fin 8) :
    val_main_v108 (F := Ideal) x1 y1 y2 y3 y4 (ix4 n i j f)
      = (normed (fun f i j => gauss (rho (A.at n) i j) (theta (A.at n) i j) (mr f) (mt f) (pr f) (pt f)) f i j : EReal) := by
  unfold normed
  rw [val_main_v108_apply, normed_pos]
  have hw := weight_ref h h1 h2 h3 h4 n i j
  generalize pos n i j = r at *
  have e1 : idx_main_v103 (idx_main_v106 (ix2 r f)) = ix1 r := by
    funext a; match a with | ⟨0, _⟩ => rfl
  have e (k : Fin 8) : idx_main_v102 (ix1 r) k = ix2 r k := by
    funext a; match a with | ⟨0, _⟩ => rfl | ⟨1, _⟩ => rfl
  rw [val_main_v107_apply, val_main_v106_apply, val_main_v105_apply, val_main_v104_apply, val_main_v103_apply, val_main_v102_apply, e1]
  simp only [e, hw]
  rw [show val_main_cst_15 (F := Ideal) (Shape.Idx.first h_S_) = 0 by unfold val_main_cst_15; exact Ideal.ofBits_zero .f32, show val_main_cst_16 (F := Ideal) (idx_main_v104 (idx_main_v106 (ix2 r f))) = _ from lit_eps, zero_add, ← coe_sum]
  show Ideal.div _ (((∑ g, _ : ℝ) : EReal) + (eps : EReal)) = _
  rw [← EReal.coe_add, ← coe_div (total_pos _ fun f => w_nonneg _ _ _ _ _ _).ne']

theorem normed_ref_second (y1 y2 y3 y4 : FVec Ideal S8 .f32) : val_main_v185 (F := Ideal) x1 y1 y2 y3 y4 = val_main_v108 (F := Ideal) x1 y1 y2 y3 y4 := by
  simp only [val_main_v102, val_main_v103, val_main_v104, val_main_v105, val_main_v106, val_main_v107, val_main_v108, val_main_cst_15, val_main_cst_16, val_main_v179, val_main_v180, val_main_v181, val_main_v182, val_main_v183, val_main_v184, val_main_v185, val_main_cst_28, val_main_cst_29, weight_ref_second]

end Cert.Net

end
-- ==== Proof.RefGraph.lean ====
/-
  The reference's graph: the logits, the sixteen greatest of each row with their positions, and the softmax over them.
-/
module

public import proofs.«01_k».proof.Proof.RefGeo

@[expose] public section

noncomputable section

namespace Cert.Net

open Finset Idealize.ShloMosaic Idealize.ShloMosaic.StableHlo Cert.ReferenceIdeal Cert.ReferenceIdeal.Gen Cert.ReferenceIdeal.Read

variable {A : All} {x0 : FVec Ideal S64x100x2048 .f32} {x1 : FVec Ideal S64x100x4 .f32} {x2 : FVec Ideal S64x1024 .f32}
  {x4 : FVec Ideal S3076x512 .f32} {x5 : FVec Ideal S512 .f32} {x6 : FVec Ideal S512x512 .f32} {x7 : FVec Ideal S512 .f32}
  {x8 : FVec Ideal S8x2052x256 .f32} {x9 x10 x11 x12 : FVec Ideal S8 .f32} {x13 : FVec Ideal S8x2048x128 .f32}
  {x14 x15 x16 x17 : FVec Ideal S8 .f32}

variable (h : Args A x0 x1 x2 x4 x5 x6 x7 x8 x9 x10 x11 x12 x13 x14 x15 x16 x17)

/-- Where the reference finds the `k`-th greatest logit of a row. -/
def place (p : In) (i : Fin 100) (k : Fin 16) : Fin 100 := sortedFrom (TopRow.greater (logit p i)) (k.castLE (by norm_num))

theorem place_top (p : In) (i : Fin 100) (k : Fin 16) : TopRow.Top (logit p i) (place p i k) := (TopRow.top_sorted_iff _ _).mpr k.isLt

theorem along_ref (n : Fin 64) (i j j' : Fin 100) : Shape.Idx.along (s := S64x100x100) (ix3 n i j) 2 j' = ix3 n i j' := by
  funext a
  match a with
  | ⟨0, _⟩ => rfl
  | ⟨1, _⟩ => rfl
  | ⟨2, _⟩ => rfl

/-- The first sixteen along the last axis. -/
theorem cut_ref {α : Type} (v : S64x100x100.Idx → α) (hs : S64x100x100.Slices (fun _ => 0) S64x100x16) (n : Fin 64) (i : Fin 100) (k : Fin 16) :
    extractStridedSlice S64x100x16 (fun _ => 0) v hs (ix3 n i k) = v (ix3 n i (k.castLE (by norm_num))) := by
  refine congrArg v (funext fun a => Fin.ext ?_)
  match a with
  | ⟨0, _⟩ => exact Nat.zero_add _
  | ⟨1, _⟩ => exact Nat.zero_add _
  | ⟨2, _⟩ => exact Nat.zero_add _

theorem topK_values {α : Type} (gt : α → α → BitVec 1) (v : S64x100x100.Idx → α) (hs : S64x100x100.Slices (fun _ => 0) S64x100x16)
    (n : Fin 64) (i : Fin 100) (k : Fin 16) : (Host.topK S64x100x16 2 gt v hs).1 (ix3 n i k)
      = v (ix3 n i (sortedFrom (fun j j' : Fin 100 => gt (v (ix3 n i j)) (v (ix3 n i j')) == 1#1) (k.castLE (by norm_num)))) := by
  unfold Host.topK
  dsimp only
  rw [cut_ref]
  generalize (k.castLE (by norm_num) : Fin 100) = q
  show v (Shape.Idx.along (s := S64x100x100) (ix3 n i q) 2 (sortedFrom (fun j j' : Fin 100 =>
    gt (v (Shape.Idx.along (s := S64x100x100) (ix3 n i q) 2 j)) (v (Shape.Idx.along (s := S64x100x100) (ix3 n i q) 2 j')) == 1#1) q)) = _
  simp only [along_ref]
  exact congrArg v (along_ref n i q _)

theorem topK_indices {α : Type} (gt : α → α → BitVec 1) (v : S64x100x100.Idx → α) (hs : S64x100x100.Slices (fun _ => 0) S64x100x16)
    (n : Fin 64) (i : Fin 100) (k : Fin 16) : (Host.topK S64x100x16 2 gt v hs).2 (ix3 n i k)
      = BitVec.ofNat 32 (sortedFrom (fun j j' : Fin 100 => gt (v (ix3 n i j)) (v (ix3 n i j')) == 1#1) (k.castLE (by norm_num))).val := by
  unfold Host.topK
  dsimp only
  rw [cut_ref]
  generalize (k.castLE (by norm_num) : Fin 100) = q
  show BitVec.ofNat 32 (Shape.Idx.along (s := S64x100x100) (ix3 n i q) 2 (sortedFrom (fun j j' : Fin 100 =>
    gt (v (Shape.Idx.along (s := S64x100x100) (ix3 n i q) 2 j)) (v (Shape.Idx.along (s := S64x100x100) (ix3 n i q) 2 j')) == 1#1) q) 2).val = _
  simp only [along_ref]
  have e (r : Fin 100) : BitVec.ofNat 32 (Shape.Idx.along (s := S64x100x100) (ix3 n i q) 2 r 2).val = BitVec.ofNat 32 r.val := by
    rw [along_ref]; rfl
  exact e _

/-- The greatest of finitely many real numbers, and of as many `⊥`, is real. -/
theorem fold_real {n : ℕ} (g : Fin (n + 1) → ℝ) : ∃ m : ℝ, max (⊥ : EReal) (univ.fold max ⊥ fun k => (g k : EReal)) = (m : EReal) := by
  obtain ⟨k, hk⟩ := TopRow.exists_rowMax (fun k => (g k : EReal))
  exact ⟨g k, by rw [max_eq_right bot_le]; exact hk.symm⟩

include h

theorem vb_ref (n : Fin 64) (i : Fin 100) (d : Fin 2052) : val_main_v0 (F := Ideal) x0 x1 (ix3 n i d) = (vb (A.at n) i d : EReal) := by
  pointwise [val_main_v0]
  unfold vb
  split
  · rw [h.v]; rfl
  · rw [h.b]; rfl

theorem feat_ref (n : Fin 64) (i : Fin 100) (d : Fin 3076) : val_main_v35 (F := Ideal) x0 x1 x2 (ix3 n i d) = (feat (A.at n) i d : EReal) := by
  pointwise [val_main_v35, val_main_v34, val_main_v33]
  unfold feat
  split
  · rw [vb_ref h]
  · rw [h.q]; rfl

theorem hid1_ref (n : Fin 64) (i : Fin 100) (k : Fin 512) : val_main_v41 (F := Ideal) x0 x1 x2 x4 x5 (ix3 n i k) = (hid1 (A.at n) i k : EReal) := by
  pointwise [val_main_v41, val_main_v40, val_main_v39, val_main_v38, val_main_v37, val_main_v36, val_main_cst_4]
  simp only [feat_ref h, h.w1, h.b1, ← EReal.coe_mul, ← coe_sum, ← EReal.coe_add, ← EReal.coe_zero, ← coe_max]
  rfl

theorem hid2_ref (n : Fin 64) (i : Fin 100) (k : Fin 512) : val_main_v47 (F := Ideal) x0 x1 x2 x4 x5 x6 x7 (ix3 n i k) = (hid2 (A.at n) i k : EReal) := by
  pointwise [val_main_v47, val_main_v46, val_main_v45, val_main_v44, val_main_v43, val_main_v42, val_main_cst_5]
  simp only [hid1_ref h, h.w2, h.b2, ← EReal.coe_mul, ← coe_sum, ← EReal.coe_add, ← EReal.coe_zero, ← coe_max]
  rfl

theorem logit_ref (n : Fin 64) (i j : Fin 100) : val_main_v48 (F := Ideal) x0 x1 x2 x4 x5 x6 x7 (ix3 n i j) = (logit (A.at n) i j : EReal) := by
  pointwise [val_main_v48]
  simp only [hid2_ref h, ← EReal.coe_mul, ← coe_sum]
  rfl

/-- The position the sort of a row puts at `k`. -/
theorem place_ref (n : Fin 64) (i : Fin 100) (k : Fin 16) :
    sortedFrom (fun j j' : Fin 100 => FloatOps.cmpfTotal (F := Ideal) (φ := .f32) CmpDirection.gt (val_main_v48 (F := Ideal) x0 x1 x2 x4 x5 x6 x7 (ix3 n i j))
        (val_main_v48 (F := Ideal) x0 x1 x2 x4 x5 x6 x7 (ix3 n i j')) == 1#1) (k.castLE (by norm_num)) = place (A.at n) i k := by
  unfold place
  congr 1
  funext j j'
  rw [logit_ref h, logit_ref h, Ideal.cmpfTotal_def]
  unfold TopRow.greater
  rw [show (Ideal.cmp CmpDirection.gt.ordered (logit (A.at n) i j : EReal) (logit (A.at n) i j' : EReal)) =
    BitVec.ofBool (decide ((logit (A.at n) i j' : EReal) < (logit (A.at n) i j : EReal))) from rfl]
  simp only [EReal.coe_lt_coe_iff]
  by_cases hlt : logit (A.at n) i j' < logit (A.at n) i j <;> simp [hlt]

theorem values_ref (n : Fin 64) (i : Fin 100) (k : Fin 16) :
    val_main_values (F := Ideal) x0 x1 x2 x4 x5 x6 x7 (ix3 n i k) = (logit (A.at n) i (place (A.at n) i k) : EReal) := by
  unfold val_main_values
  rw [topK_values, place_ref h, logit_ref h]

theorem indices_ref (n : Fin 64) (i : Fin 100) (k : Fin 16) :
    val_main_indices (F := Ideal) x0 x1 x2 x4 x5 x6 x7 (ix3 n i k) = BitVec.ofNat 32 (place (A.at n) i k).val := by
  unfold val_main_indices
  rw [topK_indices, place_ref h]

/-- The softmax of the sixteen. -/
theorem adj_ref (n : Fin 64) (i : Fin 100) (k : Fin 16) :
    val_main_v59 (F := Ideal) x0 x1 x2 x4 x5 x6 x7 (ix3 n i k) = (adj (A.at n) i (place (A.at n) i k) : EReal) := by
  pointwise [val_main_v59, val_main_v58, val_main_v57, val_main_v56, val_main_v55, val_main_v54, val_main_v53, val_main_v52, val_main_v51, val_main_v50,
    val_main_v49, val_main_cst_6, val_main_cst_7, val_main_cst_8]
  simp only [values_ref h]
  simp only [lit_bot]
  obtain ⟨m, hm⟩ := fold_real (n := 15) fun k => logit (A.at n) i (place (A.at n) i k)
  simp only [hm, ← EReal.coe_sub, ← coe_exp, ← coe_sum]
  have hs : (∑ k : Fin 16, Real.exp (logit (A.at n) i (place (A.at n) i k) - m))
      = ∑ j, if TopRow.Top (logit (A.at n) i) j then Real.exp (logit (A.at n) i j - m) else 0 :=
    TopRow.sum_sorted (logit (A.at n) i) (by norm_num) fun j => Real.exp (logit (A.at n) i j - m)
  rw [hs, ← coe_div (shifted_pos (A.at n) m i).ne', adj_shift (A.at n) m i, if_pos (place_top _ _ _)]

end Cert.Net

end
-- ==== Proof.RefGather.lean ====
/-
  The two gathers of the reference read at an index: rows of a table of objects, and entries of a table of pairs.
-/
module

public import Idealize.ShloMosaic.Lib.ValueIdx
public import Idealize.ShloMosaic.Lib.Pointwise

@[expose] public section

noncomputable section

namespace Cert.Net

open Idealize.ShloMosaic

/-- A position of a row, as the word that names it, is itself after clamping. -/
theorem clamp (N : ℕ) (hN : N ≤ 100) (j : Fin N) : min (BitVec.ofNat 32 j.val).toInt.toNat (N - 1) = j.val := by
  have h : (BitVec.ofNat 32 j.val).toNat = j.val := Nat.mod_eq_of_lt (by omega)
  rw [BitVec.toInt_eq_toNat_of_lt (by rw [h]; omega), h]
  omega

theorem start_zero {s si t : Shape} (d : GatherDims s si t) (y : t.Idx) (idx : IVec si 32) (a : Fin s.rank) (ha : a ∉ d.startIndexMap) :
    d.start y idx a = 0 := dif_neg ha

theorem start_at {s si t : Shape} (d : GatherDims s si t) (y : t.Idx) (idx : IVec si 32) (a : Fin s.rank) (ha : a ∈ d.startIndexMap) :
    d.start y idx a = min (idx (d.siIdx y ⟨d.startIndexMap.idxOf a, List.idxOf_lt_length_iff.2 ha⟩)).toInt.toNat (s.size a - d.sliceSizes a) :=
  dif_pos ha

/-- The numbers of the gather of object rows. -/
abbrev rowDims (C : ℕ) (wf : GatherDims.WF ⟨3, ![64, 100, C]⟩ ⟨4, ![64, 100, 16, 2]⟩ ⟨4, ![64, 100, 16, C]⟩ [3] [0, 1] [] [0, 1] [] 3 ![1, 1, C]) :
    GatherDims ⟨3, ![64, 100, C]⟩ ⟨4, ![64, 100, 16, 2]⟩ ⟨4, ![64, 100, 16, C]⟩ where
  offsetDims := [3]
  collapsedSliceDims := [0, 1]
  operandBatchingDims := []
  startIndicesBatchingDims := []
  startIndexMap := [0, 1]
  indexVectorDim := 3
  sliceSizes := ![1, 1, C]
  wf := wf

theorem gather_rows {α : Type} (C : ℕ) (wf : GatherDims.WF ⟨3, ![64, 100, C]⟩ ⟨4, ![64, 100, 16, 2]⟩ ⟨4, ![64, 100, 16, C]⟩ [3] [0, 1] [] [0, 1] [] 3 ![1, 1, C])
    (x : (⟨3, ![64, 100, C]⟩ : Shape).Idx → α) (idx : IVec ⟨4, ![64, 100, 16, 2]⟩ 32) (n : Fin 64) (i : Fin 100) (k : Fin 16) (d : Fin C)
    (n' : Fin 64) (j : Fin 100) (h0 : idx (ix4 n i k 0) = BitVec.ofNat 32 n'.val) (h1 : idx (ix4 n i k 1) = BitVec.ofNat 32 j.val) :
    Host.gather (rowDims C wf) x idx (ix4 n i k d) = x (ix3 n' j d) := by
  unfold Host.gather
  congr 1
  funext a
  refine Fin.ext ?_
  show (rowDims C wf).start _ idx a + (rowDims C wf).batchCoord _ a + (rowDims C wf).offCoord _ a = _
  match a with
  | ⟨0, _⟩ =>
    show (rowDims C wf).start _ idx (0 : Fin 3) + (rowDims C wf).batchCoord _ (0 : Fin 3) + (rowDims C wf).offCoord _ (0 : Fin 3) = _
    rw [GatherDims.batchCoord_eq_zero _ _ _ List.not_mem_nil, GatherDims.offCoord_eq_zero _ _ _ (fun h => ((GatherDims.mem_sKept _ _).mp h).1 (show (0 : Fin 3) ∈ [0, 1] by decide))]
    rw [start_at _ _ _ _ (show (0 : Fin 3) ∈ [0, 1] by decide)]
    have hsi : (rowDims C wf).siIdx (ix4 n i k d) ⟨0, Nat.two_pos⟩ = ix4 n i k 0 := by
      funext b; refine Fin.ext ?_
      match b with
      | ⟨0, _⟩ => rfl
      | ⟨1, _⟩ => rfl
      | ⟨2, _⟩ => rfl
      | ⟨3, _⟩ => rfl
    show min (idx ((rowDims C wf).siIdx (ix4 n i k d) ⟨0, _⟩)).toInt.toNat (64 - 1) + 0 + 0 = n'.val
    rw [hsi, h0]
    exact clamp 64 (by norm_num) n'
  | ⟨1, _⟩ =>
    show (rowDims C wf).start _ idx (1 : Fin 3) + (rowDims C wf).batchCoord _ (1 : Fin 3) + (rowDims C wf).offCoord _ (1 : Fin 3) = _
    rw [GatherDims.batchCoord_eq_zero _ _ _ List.not_mem_nil, GatherDims.offCoord_eq_zero _ _ _ (fun h => ((GatherDims.mem_sKept _ _).mp h).1 (show (1 : Fin 3) ∈ [0, 1] by decide))]
    rw [start_at _ _ _ _ (show (1 : Fin 3) ∈ [0, 1] by decide)]
    have hsi : (rowDims C wf).siIdx (ix4 n i k d) ⟨1, Nat.one_lt_two⟩ = ix4 n i k 1 := by
      funext b; refine Fin.ext ?_
      match b with
      | ⟨0, _⟩ => rfl
      | ⟨1, _⟩ => rfl
      | ⟨2, _⟩ => rfl
      | ⟨3, _⟩ => rfl
    show min (idx ((rowDims C wf).siIdx (ix4 n i k d) ⟨1, _⟩)).toInt.toNat (100 - 1) + 0 + 0 = j.val
    rw [hsi, h1]
    exact clamp 100 le_rfl j
  | ⟨2, _⟩ =>
    show (rowDims C wf).start _ idx (2 : Fin 3) + (rowDims C wf).batchCoord _ (2 : Fin 3) + (rowDims C wf).offCoord _ (2 : Fin 3) = _
    rw [start_zero _ _ _ _ (show ¬ (2 : Fin 3) ∈ [0, 1] by decide), GatherDims.batchCoord_eq_zero _ _ _ List.not_mem_nil]
    show 0 + 0 + d.val = d.val
    omega

/-- The numbers of the gather of pairs. -/
abbrev pairDims (wf : GatherDims.WF ⟨4, ![64, 100, 100, 8]⟩ ⟨4, ![64, 100, 16, 1]⟩ ⟨4, ![64, 100, 16, 8]⟩ [3] [2] [0, 1] [2] [0, 1] 3 ![1, 1, 1, 8]) :
    GatherDims ⟨4, ![64, 100, 100, 8]⟩ ⟨4, ![64, 100, 16, 1]⟩ ⟨4, ![64, 100, 16, 8]⟩ where
  offsetDims := [3]
  collapsedSliceDims := [2]
  operandBatchingDims := [0, 1]
  startIndicesBatchingDims := [0, 1]
  startIndexMap := [2]
  indexVectorDim := 3
  sliceSizes := ![1, 1, 1, 8]
  wf := wf

theorem gather_pairs {α : Type} (wf : GatherDims.WF ⟨4, ![64, 100, 100, 8]⟩ ⟨4, ![64, 100, 16, 1]⟩ ⟨4, ![64, 100, 16, 8]⟩ [3] [2] [0, 1] [2] [0, 1] 3 ![1, 1, 1, 8])
    (x : (⟨4, ![64, 100, 100, 8]⟩ : Shape).Idx → α) (idx : IVec ⟨4, ![64, 100, 16, 1]⟩ 32) (n : Fin 64) (i : Fin 100) (k : Fin 16) (f : Fin 8)
    (j : Fin 100) (hj : idx (ix4 n i k 0) = BitVec.ofNat 32 j.val) :
    Host.gather (pairDims wf) x idx (ix4 n i k f) = x (ix4 n i j f) := by
  unfold Host.gather
  congr 1
  funext a
  refine Fin.ext ?_
  show (pairDims wf).start _ idx a + (pairDims wf).batchCoord _ a + (pairDims wf).offCoord _ a = _
  match a with
  | ⟨0, _⟩ =>
    show (pairDims wf).start _ idx (0 : Fin 4) + (pairDims wf).batchCoord _ (0 : Fin 4) + (pairDims wf).offCoord _ (0 : Fin 4) = _
    rw [start_zero _ _ _ _ (show ¬ (0 : Fin 4) ∈ [2] by decide), GatherDims.offCoord_eq_zero _ _ _ (fun h => ((GatherDims.mem_sKept _ _).mp h).2 (show (0 : Fin 4) ∈ [0, 1] by decide))]
    show 0 + n.val + 0 = n.val
    omega
  | ⟨1, _⟩ =>
    show (pairDims wf).start _ idx (1 : Fin 4) + (pairDims wf).batchCoord _ (1 : Fin 4) + (pairDims wf).offCoord _ (1 : Fin 4) = _
    rw [start_zero _ _ _ _ (show ¬ (1 : Fin 4) ∈ [2] by decide), GatherDims.offCoord_eq_zero _ _ _ (fun h => ((GatherDims.mem_sKept _ _).mp h).2 (show (1 : Fin 4) ∈ [0, 1] by decide))]
    show 0 + i.val + 0 = i.val
    omega
  | ⟨2, _⟩ =>
    show (pairDims wf).start _ idx (2 : Fin 4) + (pairDims wf).batchCoord _ (2 : Fin 4) + (pairDims wf).offCoord _ (2 : Fin 4) = _
    rw [GatherDims.batchCoord_eq_zero _ _ _ (show ¬ (2 : Fin 4) ∈ [0, 1] by decide),
      GatherDims.offCoord_eq_zero _ _ _ (fun h => ((GatherDims.mem_sKept _ _).mp h).1 (show (2 : Fin 4) ∈ [2] by decide))]
    rw [start_at _ _ _ _ (show (2 : Fin 4) ∈ [2] by decide)]
    have hsi : (pairDims wf).siIdx (ix4 n i k f) ⟨0, Nat.one_pos⟩ = ix4 n i k 0 := by
      funext b; refine Fin.ext ?_
      match b with
      | ⟨0, _⟩ => rfl
      | ⟨1, _⟩ => rfl
      | ⟨2, _⟩ => rfl
      | ⟨3, _⟩ => rfl
    show min (idx ((pairDims wf).siIdx (ix4 n i k f) ⟨0, _⟩)).toInt.toNat (100 - 1) + 0 + 0 = j.val
    rw [hsi, hj]
    exact clamp 100 le_rfl j
  | ⟨3, _⟩ =>
    show (pairDims wf).start _ idx (3 : Fin 4) + (pairDims wf).batchCoord _ (3 : Fin 4) + (pairDims wf).offCoord _ (3 : Fin 4) = _
    rw [start_zero _ _ _ _ (show ¬ (3 : Fin 4) ∈ [2] by decide), GatherDims.batchCoord_eq_zero _ _ _ (show ¬ (3 : Fin 4) ∈ [0, 1] by decide)]
    show 0 + 0 + f.val = f.val
    omega

end Cert.Net

end
-- ==== Proof.RefLayers.lean ====
/-
  The reference's two graph convolutions: neighbours gathered at the positions of the sixteen greatest logits, weighted
  and summed, then the linear map of each kernel.
-/
module

public import proofs.«01_k».proof.Proof.RefGraph
public import proofs.«01_k».proof.Proof.RefGather

@[expose] public section

noncomputable section

namespace Cert.Net

open Finset Idealize.ShloMosaic Idealize.ShloMosaic.StableHlo Cert.ReferenceIdeal Cert.ReferenceIdeal.Gen Cert.ReferenceIdeal.Read

variable {A : All} {x0 : FVec Ideal S64x100x2048 .f32} {x1 : FVec Ideal S64x100x4 .f32} {x2 : FVec Ideal S64x1024 .f32}
  {x4 : FVec Ideal S3076x512 .f32} {x5 : FVec Ideal S512 .f32} {x6 : FVec Ideal S512x512 .f32} {x7 : FVec Ideal S512 .f32}
  {x8 : FVec Ideal S8x2052x256 .f32} {x9 x10 x11 x12 : FVec Ideal S8 .f32} {x13 : FVec Ideal S8x2048x128 .f32}
  {x14 x15 x16 x17 : FVec Ideal S8 .f32}

variable (h : Args A x0 x1 x2 x4 x5 x6 x7 x8 x9 x10 x11 x12 x13 x14 x15 x16 x17)

/-- A sum over the sixteen positions is one over all objects, the weight of the others being zero. -/
theorem sum_places (p : In) (w : Fin 8 → Fin 100 → Fin 100 → ℝ) {m : ℕ} (x : Fin 100 → Fin m → ℝ) (f : Fin 8) (i : Fin 100) (d : Fin m) :
    (∑ k, normed w f i (place p i k) * (x (place p i k) d * adj p i (place p i k))) = ∑ j, normed w f i j * adj p i j * x j d := by
  refine (TopRow.sum_sorted (logit p i) (by norm_num) fun j => normed w f i j * (x j d * adj p i j)).trans ?_
  refine Finset.sum_congr rfl fun j _ => ?_
  split
  · ring
  · rename_i hj
    rw [show adj p i j = 0 from if_neg hj]
    ring

theorem not_below (N : Fin 100) : IntOp.cmpi CmpIPredicate.slt (BitVec.ofNat 32 N.val) 0#32 = 0#1 := by
  revert N; decide +kernel

theorem at_least (N : Fin 100) : IntOp.cmpi CmpIPredicate.sge (BitVec.ofNat 32 N.val) 0#32 = 1#1 := by
  revert N; decide +kernel

theorem at_most (N : Fin 100) : IntOp.cmpi CmpIPredicate.sle (BitVec.ofNat 32 N.val) 99#32 = 1#1 := by
  revert N; decide +kernel

include h

theorem batch_ref (n : Fin 64) (i : Fin 100) (k : Fin 16) :
    val_main_v124 (F := Ideal) x0 x1 x2 x4 x5 x6 x7 (ix4 n i k 0) = BitVec.ofNat 32 n.val := by
  pointwise [val_main_v124, val_main_v122, val_main_v121, val_main_v115, val_main_v114, val_main_v113, val_main_v112, val_main_v111, val_main_v110, val_main_v109, val_main_c_17, val_main_c_18]
  rw [show IntOp.cmpi CmpIPredicate.slt (BitVec.ofNat 32 n.val) 0#32 = 0#1 from not_below ⟨n.val, by omega⟩]
  rfl

theorem object_ref (n : Fin 64) (i : Fin 100) (k : Fin 16) :
    val_main_v124 (F := Ideal) x0 x1 x2 x4 x5 x6 x7 (ix4 n i k 1) = BitVec.ofNat 32 (place (A.at n) i k).val := by
  pointwise [val_main_v124, val_main_v123, val_main_v120, val_main_v119, val_main_v118, val_main_v117, val_main_v116, val_main_c_19, val_main_c_20]
  rw [indices_ref h, not_below]
  rfl

theorem along_index (n : Fin 64) (i : Fin 100) (k : Fin 16) :
    val_main_call5_v4 (F := Ideal) x0 x1 x2 x4 x5 x6 x7 (ix4 n i k 0) = BitVec.ofNat 32 (place (A.at n) i k).val := by
  pointwise [val_main_call5_v4, val_main_call5_v3, val_main_call5_v2, val_main_call5_v1, val_main_call5_v0, val_main_call5_c, val_main_call5_c_0, val_main_v126]
  rw [indices_ref h, not_below]
  rfl

theorem in_range (n : Fin 64) (i : Fin 100) (k : Fin 16) : val_main_call5_v11 (F := Ideal) x0 x1 x2 x4 x5 x6 x7 (ix3 n i k) = 1#1 := by
  unfold val_main_call5_v11
  pointwise [val_main_call5_v10, val_main_call5_v9, val_main_call5_v8, val_main_call5_v7, val_main_call5_v6, val_main_call5_v5, val_main_call5_c_1, val_main_call5_c_2, val_main_call5_c_3]
  refine (Finset.fold_congr (g := fun _ => 1#1) fun x _ => ?_).trans (by decide)
  rw [show x = 0 from Subsingleton.elim (α := Fin 1) x 0]
  refine (congrArg (fun z => IntOp.andi (IntOp.cmpi CmpIPredicate.sge z 0#32) (IntOp.cmpi CmpIPredicate.sle z 99#32)) (along_index h n i k)).trans ?_
  simp only [at_least, at_most]
  rfl

theorem edge_ref {y1 y2 y3 y4 : FVec Ideal S8 .f32} (n : Fin 64) (i : Fin 100) (k : Fin 16) (f : Fin 8) :
    val_main_v127 (F := Ideal) x0 x1 x2 x4 x5 x6 x7 y1 y2 y3 y4 (ix4 n i k f) = val_main_v108 (F := Ideal) x1 y1 y2 y3 y4 (ix4 n i (place (A.at n) i k) f) := by
  pointwise [val_main_v127, val_main_call5_v13]
  have hg : val_main_call5_v12 (F := Ideal) x0 x1 x2 x4 x5 x6 x7 y1 y2 y3 y4 (ix4 n i k f) = _ :=
    gather_pairs _ _ _ n i k f (place (A.at n) i k) (along_index h n i k)
  rw [hg, in_range h n i k]
  exact if_pos rfl

theorem rows_ref (n : Fin 64) (i : Fin 100) (k : Fin 16) (d : Fin 2052) :
    val_main_v130 (F := Ideal) x0 x1 x2 x4 x5 x6 x7 (ix4 n i k d) = ((vb (A.at n) (place (A.at n) i k) d * adj (A.at n) i (place (A.at n) i k) : ℝ) : EReal) := by
  pointwise [val_main_v130, val_main_v129, val_main_v128]
  have hg : val_main_v125 (F := Ideal) x0 x1 x2 x4 x5 x6 x7 (ix4 n i k d) = _ :=
    gather_rows 2052 _ _ _ n i k d n (place (A.at n) i k) (batch_ref h n i k) (object_ref h n i k)
  rw [hg, vb_ref h, adj_ref h, ← EReal.coe_mul]

theorem gathered_ref (n : Fin 64) (i : Fin 100) (f : Fin 8) (d : Fin 2052) :
    val_main_v131 (F := Ideal) x0 x1 x2 x4 x5 x6 x7 x9 x10 x11 x12 (ix4 n i f d)
      = ((∑ j, normed (w1 (A.at n)) f i j * adj (A.at n) i j * vb (A.at n) j d : ℝ) : EReal) := by
  rw [val_main_v131_apply, ← sum_places, coe_sum]
  refine Finset.sum_congr rfl fun k _ => ?_
  have e1 : lidx_main_v131 (ix4 n i f d) k = ix4 n i k f := by
    funext a; match a with | ⟨0, _⟩ => rfl | ⟨1, _⟩ => rfl | ⟨2, _⟩ => rfl | ⟨3, _⟩ => rfl
  have e2 : ridx_main_v131 (ix4 n i f d) k = ix4 n i k d := by
    funext a; match a with | ⟨0, _⟩ => rfl | ⟨1, _⟩ => rfl | ⟨2, _⟩ => rfl | ⟨3, _⟩ => rfl
  rw [e1, e2, edge_ref h, rows_ref h, normed_ref h h.mr1 h.mt1 h.pr1 h.pt1, EReal.coe_mul]
  rfl

theorem part1_ref (n : Fin 64) (i : Fin 100) (f : Fin 8) (o : Fin 256) :
    val_main_v133 (F := Ideal) x0 x1 x2 x4 x5 x6 x7 x8 x9 x10 x11 x12 (ix4 n i f o)
      = ((∑ d, (∑ j, normed (w1 (A.at n)) f i j * adj (A.at n) i j * vb (A.at n) j d) * A.c1 f d o : ℝ) : EReal) := by
  rw [val_main_v133_apply, val_main_v132_apply, coe_sum]
  refine Finset.sum_congr rfl fun d _ => ?_
  have e1 : lidx_main_v132 (idx_main_v133 (ix4 n i f o)) d = ix3 f d o := by
    funext a; match a with | ⟨0, _⟩ => rfl | ⟨1, _⟩ => rfl | ⟨2, _⟩ => rfl
  have e2 : ridx_main_v132 (idx_main_v133 (ix4 n i f o)) d = ix4 n i f d := by
    funext a; match a with | ⟨0, _⟩ => rfl | ⟨1, _⟩ => rfl | ⟨2, _⟩ => rfl | ⟨3, _⟩ => rfl
  rw [e1, e2, gathered_ref h, h.c1, ← EReal.coe_mul, mul_comm]

theorem layer1_ref (n : Fin 64) (i : Fin 100) (q : Fin 2048) :
    val_main_v136 (F := Ideal) x0 x1 x2 x4 x5 x6 x7 x8 x9 x10 x11 x12 (ix3 n i q) = (layer1 (A.at n) i q : EReal) := by
  have e : idx_main_v134 (ix3 n i q) = ix4 n i ⟨q.val / 256, by omega⟩ ⟨q.val % 256, by omega⟩ := by
    funext a
    match a with
    | ⟨0, _⟩ => exact Fin.ext (show ((n.val * 100 + i.val) * 2048 + q.val) / 204800 = n.val by omega)
    | ⟨1, _⟩ => exact Fin.ext (show ((n.val * 100 + i.val) * 2048 + q.val) / 2048 % 100 = i.val by omega)
    | ⟨2, _⟩ => exact Fin.ext (show ((n.val * 100 + i.val) * 2048 + q.val) / 256 % 8 = q.val / 256 by omega)
    | ⟨3, _⟩ => exact Fin.ext (show ((n.val * 100 + i.val) * 2048 + q.val) % 256 = q.val % 256 by omega)
  rw [val_main_v136_apply, val_main_v134_apply, e, part1_ref h]
  unfold layer1 conv
  rw [coe_max]
  exact congrArg (max _) Ideal.ofBits_zero_f32

end Cert.Net

end
-- ==== Proof.RefScores.lean ====
/-
  The reference's second convolution, which repeats the first on its result, and its classifier.
-/
module

public import proofs.«01_k».proof.Proof.RefLayers

@[expose] public section

noncomputable section

namespace Cert.Net

open Finset Idealize.ShloMosaic Idealize.ShloMosaic.StableHlo Cert.ReferenceIdeal Cert.ReferenceIdeal.Gen Cert.ReferenceIdeal.Read

variable {A : All} {x0 : FVec Ideal S64x100x2048 .f32} {x1 : FVec Ideal S64x100x4 .f32} {x2 : FVec Ideal S64x1024 .f32}
  {x4 : FVec Ideal S3076x512 .f32} {x5 : FVec Ideal S512 .f32} {x6 : FVec Ideal S512x512 .f32} {x7 : FVec Ideal S512 .f32}
  {x8 : FVec Ideal S8x2052x256 .f32} {x9 x10 x11 x12 : FVec Ideal S8 .f32} {x13 : FVec Ideal S8x2048x128 .f32}
  {x14 x15 x16 x17 : FVec Ideal S8 .f32}

variable (h : Args A x0 x1 x2 x4 x5 x6 x7 x8 x9 x10 x11 x12 x13 x14 x15 x16 x17)

include h

/-! ### The second convolution's positions are the first's -/

theorem pairs_second : val_main_v201 (F := Ideal) x0 x1 x2 x4 x5 x6 x7 = val_main_v124 (F := Ideal) x0 x1 x2 x4 x5 x6 x7 := by
  simp only [val_main_v186, val_main_v187, val_main_v188, val_main_v189, val_main_v190, val_main_v191, val_main_v192, val_main_v193, val_main_v194, val_main_v195, val_main_v196, val_main_v197, val_main_v198, val_main_v199, val_main_v200, val_main_v201, val_main_v109, val_main_v110, val_main_v111, val_main_v112, val_main_v113, val_main_v114, val_main_v115, val_main_v116, val_main_v117, val_main_v118, val_main_v119, val_main_v120, val_main_v121, val_main_v122, val_main_v123, val_main_v124, val_main_c_17, val_main_c_18, val_main_c_19, val_main_c_20, val_main_c_30, val_main_c_31, val_main_c_32, val_main_c_33]

theorem along_second : val_main_call7_v4 (F := Ideal) x0 x1 x2 x4 x5 x6 x7 = val_main_call5_v4 (F := Ideal) x0 x1 x2 x4 x5 x6 x7 := by
  simp only [val_main_call5_c, val_main_call5_v0, val_main_call5_v1, val_main_call5_c_0, val_main_call5_v2, val_main_call5_v3, val_main_call5_v4, val_main_call5_c_1, val_main_call5_c_2, val_main_call5_c_3, val_main_call7_c, val_main_call7_v0, val_main_call7_v1, val_main_call7_c_0, val_main_call7_v2, val_main_call7_v3, val_main_call7_v4, val_main_call7_c_1, val_main_call7_c_2, val_main_call7_c_3, val_main_v203, val_main_v126]

theorem range_second : val_main_call7_v11 (F := Ideal) x0 x1 x2 x4 x5 x6 x7 = val_main_call5_v11 (F := Ideal) x0 x1 x2 x4 x5 x6 x7 := by
  simp only [val_main_call5_c, val_main_call5_v0, val_main_call5_v1, val_main_call5_c_0, val_main_call5_v2, val_main_call5_v3, val_main_call5_v4, val_main_call5_c_1, val_main_call5_c_2, val_main_call5_v5, val_main_call5_v6, val_main_call5_v7, val_main_call5_v8, val_main_call5_v9, val_main_call5_v10, val_main_call5_c_3, val_main_call5_v11, val_main_call7_c, val_main_call7_v0, val_main_call7_v1, val_main_call7_c_0, val_main_call7_v2, val_main_call7_v3, val_main_call7_v4, val_main_call7_c_1, val_main_call7_c_2, val_main_call7_v5, val_main_call7_v6, val_main_call7_v7, val_main_call7_v8, val_main_call7_v9, val_main_call7_v10, val_main_call7_c_3, val_main_call7_v11, val_main_v203, val_main_v126]

theorem edge_second : val_main_v204 (F := Ideal) x0 x1 x2 x4 x5 x6 x7 x14 x15 x16 x17 = val_main_v127 (F := Ideal) x0 x1 x2 x4 x5 x6 x7 x14 x15 x16 x17 := by
  simp only [val_main_call5_c, val_main_call5_v0, val_main_call5_v1, val_main_call5_c_0, val_main_call5_v2, val_main_call5_v3, val_main_call5_v4, val_main_call5_c_1, val_main_call5_c_2, val_main_call5_v5, val_main_call5_v6, val_main_call5_v7, val_main_call5_v8, val_main_call5_v9, val_main_call5_v10, val_main_call5_c_3, val_main_call5_v11, val_main_call5_v12, val_main_call5_v13, val_main_call5_cst, val_main_call5_v14, val_main_call7_c, val_main_call7_v0, val_main_call7_v1, val_main_call7_c_0, val_main_call7_v2, val_main_call7_v3, val_main_call7_v4, val_main_call7_c_1, val_main_call7_c_2, val_main_call7_v5, val_main_call7_v6, val_main_call7_v7, val_main_call7_v8, val_main_call7_v9, val_main_call7_v10, val_main_call7_c_3, val_main_call7_v11, val_main_call7_v12, val_main_call7_v13, val_main_call7_cst, val_main_call7_v14, val_main_v204, val_main_v127, val_main_v203, val_main_v126, normed_ref_second]

/-! ### The second convolution -/

theorem rows2_ref (n : Fin 64) (i : Fin 100) (k : Fin 16) (d : Fin 2048) :
    val_main_v207 (F := Ideal) x0 x1 x2 x4 x5 x6 x7 x8 x9 x10 x11 x12 (ix4 n i k d) = ((layer1 (A.at n) (place (A.at n) i k) d * adj (A.at n) i (place (A.at n) i k) : ℝ) : EReal) := by
  pointwise [val_main_v207, val_main_v206, val_main_v205]
  have hg : val_main_v202 (F := Ideal) x0 x1 x2 x4 x5 x6 x7 x8 x9 x10 x11 x12 (ix4 n i k d) = _ :=
    gather_rows 2048 _ _ _ n i k d n (place (A.at n) i k) ((congrFun (pairs_second h) _).trans (batch_ref h n i k))
      ((congrFun (pairs_second h) _).trans (object_ref h n i k))
  rw [hg, layer1_ref h, adj_ref h, ← EReal.coe_mul]

theorem gathered2_ref (n : Fin 64) (i : Fin 100) (f : Fin 8) (d : Fin 2048) :
    val_main_v208 (F := Ideal) x0 x1 x2 x4 x5 x6 x7 x8 x9 x10 x11 x12 x14 x15 x16 x17 (ix4 n i f d)
      = ((∑ j, normed (w2 (A.at n)) f i j * adj (A.at n) i j * layer1 (A.at n) j d : ℝ) : EReal) := by
  rw [val_main_v208_apply, ← sum_places, coe_sum]
  refine Finset.sum_congr rfl fun k _ => ?_
  have e1 : lidx_main_v208 (ix4 n i f d) k = ix4 n i k f := by
    funext a; match a with | ⟨0, _⟩ => rfl | ⟨1, _⟩ => rfl | ⟨2, _⟩ => rfl | ⟨3, _⟩ => rfl
  have e2 : ridx_main_v208 (ix4 n i f d) k = ix4 n i k d := by
    funext a; match a with | ⟨0, _⟩ => rfl | ⟨1, _⟩ => rfl | ⟨2, _⟩ => rfl | ⟨3, _⟩ => rfl
  rw [e1, e2, edge_second h, edge_ref h, rows2_ref h, normed_ref h h.mr2 h.mt2 h.pr2 h.pt2, EReal.coe_mul]
  rfl

theorem part2_ref (n : Fin 64) (i : Fin 100) (f : Fin 8) (o : Fin 128) :
    val_main_v210 (F := Ideal) x0 x1 x2 x4 x5 x6 x7 x8 x9 x10 x11 x12 x13 x14 x15 x16 x17 (ix4 n i f o)
      = ∑ d, ((∑ j, normed (w2 (A.at n)) f i j * adj (A.at n) i j * layer1 (A.at n) j d : ℝ) : EReal) * A.c2 f d o := by
  rw [val_main_v210_apply, val_main_v209_apply]
  refine Finset.sum_congr rfl fun d _ => ?_
  have e1 : lidx_main_v209 (idx_main_v210 (ix4 n i f o)) d = ix3 f d o := by
    funext a; match a with | ⟨0, _⟩ => rfl | ⟨1, _⟩ => rfl | ⟨2, _⟩ => rfl
  have e2 : ridx_main_v209 (idx_main_v210 (ix4 n i f o)) d = ix4 n i f d := by
    funext a; match a with | ⟨0, _⟩ => rfl | ⟨1, _⟩ => rfl | ⟨2, _⟩ => rfl | ⟨3, _⟩ => rfl
  rw [e1, e2, gathered2_ref h, h.c2, mul_comm]

theorem layer2_ref (n : Fin 64) (i : Fin 100) (q : Fin 1024) :
    val_main_v213 (F := Ideal) x0 x1 x2 x4 x5 x6 x7 x8 x9 x10 x11 x12 x13 x14 x15 x16 x17 (ix3 n i q) = layer2 (A.at n) i q := by
  have e : idx_main_v211 (ix3 n i q) = ix4 n i ⟨q.val / 128, by omega⟩ ⟨q.val % 128, by omega⟩ := by
    funext a
    match a with
    | ⟨0, _⟩ => exact Fin.ext (show ((n.val * 100 + i.val) * 1024 + q.val) / 102400 = n.val by omega)
    | ⟨1, _⟩ => exact Fin.ext (show ((n.val * 100 + i.val) * 1024 + q.val) / 1024 % 100 = i.val by omega)
    | ⟨2, _⟩ => exact Fin.ext (show ((n.val * 100 + i.val) * 1024 + q.val) / 128 % 8 = q.val / 128 by omega)
    | ⟨3, _⟩ => exact Fin.ext (show ((n.val * 100 + i.val) * 1024 + q.val) % 128 = q.val % 128 by omega)
  rw [val_main_v213_apply, val_main_v211_apply, e, part2_ref h]
  unfold layer2 second
  exact congrArg (max _) Ideal.ofBits_zero_f32

/-! ### Pooling and the classifier -/

variable {x3 : FVec Ideal S64x100 .f32}

theorem pooled_ref (hm : ∀ n i, x3 (ix2 n i) = 1) (n : Fin 64) (k : Fin 1024) :
    val_main_v217 (F := Ideal) x0 x1 x2 x3 x4 x5 x6 x7 x8 x9 x10 x11 x12 x13 x14 x15 x16 x17 (ix2 n k) = pooled (A.at n) k := by
  unfold val_main_v217 pooled
  pointwise [val_main_v216, val_main_v215, val_main_v214, val_main_cst_35]
  simp only [hm, mul_one, layer2_ref h]
  rw [show Ideal.ofBits FTy.f32 4286578688#32 = ⊥ from lit_bot]

theorem gate_ref (hm : ∀ n i, x3 (ix2 n i) = 1) (n : Fin 64) (d : Fin 1024) :
    val_main_v220 (F := Ideal) x0 x1 x2 x3 x4 x5 x6 x7 x8 x9 x10 x11 x12 x13 x14 x15 x16 x17 (ix2 n d) = pooled (A.at n) d * max (x2 (ix2 n d)) 0 := by
  rw [val_main_v220_apply, pooled_ref h hm, val_main_v219_apply, val_main_v218_apply]
  exact congrArg (fun z : EReal => pooled (A.at n) d * max (x2 (ix2 n d)) z) Ideal.ofBits_zero_f32

theorem hidden_ref (hm : ∀ n i, x3 (ix2 n i) = 1) (a18 : FVec Ideal S1024x2048 .f32) (a19 : FVec Ideal S2048 .f32) (n : Fin 64) (k : Fin 2048) :
    val_main_v226 (F := Ideal) x0 x1 x2 x3 x4 x5 x6 x7 x8 x9 x10 x11 x12 x13 x14 x15 x16 x17 a18 a19 (ix2 n k)
      = max ((∑ d : Fin 1024, pooled (A.at n) d * max (x2 (ix2 n d)) 0 * a18 (ix2 d k)) + a19 (ix1 k)) 0 := by
  have e3 (d : Fin 1024) : lidx_main_v221 (ix2 n k) d = ix2 n d := by funext a; match a with | ⟨0, _⟩ => rfl | ⟨1, _⟩ => rfl
  have e4 (d : Fin 1024) : ridx_main_v221 (ix2 n k) d = ix2 d k := by funext a; match a with | ⟨0, _⟩ => rfl | ⟨1, _⟩ => rfl
  have e5 : idx_main_v222 (idx_main_v223 (ix2 n k)) = ix1 k := by funext a; match a with | ⟨0, _⟩ => rfl
  rw [val_main_v226_apply, val_main_v224_apply, val_main_v221_apply, val_main_v223_apply, val_main_v222_apply, val_main_v225_apply, e5]
  simp only [e3, e4, gate_ref h hm]
  generalize (∑ d : Fin 1024, pooled (A.at n) d * max (x2 (ix2 n d)) 0 * a18 (ix2 d k)) = u
  exact congrArg (max (u + a19 (ix1 k))) Ideal.ofBits_zero_f32

theorem scores_ref (hm : ∀ n i, x3 (ix2 n i) = 1) (a18 : FVec Ideal S1024x2048 .f32) (a19 : FVec Ideal S2048 .f32)
    (a20 : FVec Ideal S2048x3129 .f32) (a21 : FVec Ideal S3129 .f32) :
    val_main_v230 (F := Ideal) x0 x1 x2 x3 x4 x5 x6 x7 x8 x9 x10 x11 x12 x13 x14 x15 x16 x17 a18 a19 a20 a21 = classify (features A) x2 a18 a19 a20 a21 := by
  funext y
  obtain ⟨n, o, rfl⟩ : ∃ n o, y = ix2 n o := ⟨y 0, y 1, by funext a; match a with | ⟨0, _⟩ => rfl | ⟨1, _⟩ => rfl⟩
  have e1 (k : Fin 2048) : lidx_main_v227 (ix2 n o) k = ix2 n k := by funext a; match a with | ⟨0, _⟩ => rfl | ⟨1, _⟩ => rfl
  have e2 (k : Fin 2048) : ridx_main_v227 (ix2 n o) k = ix2 k o := by funext a; match a with | ⟨0, _⟩ => rfl | ⟨1, _⟩ => rfl
  have e5 : idx_main_v228 (idx_main_v229 (ix2 n o)) = ix1 o := by funext a; match a with | ⟨0, _⟩ => rfl
  rw [val_main_v230_apply, val_main_v227_apply, val_main_v229_apply, val_main_v228_apply, e5]
  simp only [e1, e2, hidden_ref h hm]
  rfl

end Cert.Net

end
-- ==== Proof.FromPre.lean ====
/-
  What the precondition says: every entry of the features, the question, the graph learner's weights and the first
  convolution's linear maps is a real number, and every entry of the mask is one.
-/
module

public import proofs.«01_k».proof.Proof.Whole
public import proofs.«01_k».proof.Pre_finite_and_unmasked
public import Idealize.ShloMosaic.Lib.ReduceAll

@[expose] public section

noncomputable section

namespace Cert.Net

open Finset Idealize.ShloMosaic Cert.Pre_finite_and_unmasked Cert.Pre_finite_and_unmasked.Facts

/-- The side conditions of the precondition's operations. -/
theorem pre_facts : Cert.Pre_finite_and_unmasked.Facts := by
  constructor <;> decide +kernel

variable {s : Shape} {axes : List (Fin s.rank)}

/-- An absolute value below infinity makes a real number. -/
theorem real_of_below {x : EReal} (h : Ideal.cmp .olt (max x (-x)) (Ideal.ofBits .f32 0x7F800000#32) = 1#1) : x = (x.toReal : EReal) := by
  rw [lit_top] at h
  have hx : max x (-x) < ⊤ := by
    by_contra hn
    simp [Ideal.cmp, hn] at h
  induction x with
  | bot => simp at hx
  | top => simp at hx
  | coe r => simp

/-- An array whose entries all pass the test is real. -/
theorem real_of_all (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : x i = ((x i).toReal : EReal) :=
  real_of_below (Host.reduce_andi_all _ _ _ _ j e i)

/-- An array whose entries all equal one. -/
theorem one_of_all (x : FVec Ideal s .f32) (hb : S_.BroadcastsInDim s (![] : Fin 0 → Fin s.rank)) (hr : s.ReducesTo axes S_) (hu : 0 < S_.numel) (j : S_.Idx)
    (e : Host.reduce IntOp.andi (cmpf .oeq x (broadcastInDim s ![] hb (constant (F := Ideal) S_ .f32 0x3F800000#32))) (constantI S_ 1 1#1) hr hu j = 1#1)
    (i : s.Idx) : x i = 1 := by
  have h : Ideal.cmp .oeq (x i) (Ideal.ofBits .f32 0x3F800000#32) = 1#1 := Host.reduce_andi_all _ _ _ _ j e i
  rw [lit_one, EReal.coe_one] at h
  by_contra hn
  simp [Ideal.cmp, hn] at h

/-- The arguments, read off the arrays. -/
theorem args_of_pre [Cert.Pre_finite_and_unmasked.Facts] (a0 : FVec Ideal S64x100x2048 .f32) (a1 : FVec Ideal S64x100x4 .f32) (a2 : FVec Ideal S64x1024 .f32) (a3 : FVec Ideal S64x100 .f32) (a4 : FVec Ideal S3076x512 .f32) (a5 : FVec Ideal S512 .f32) (a6 : FVec Ideal S512x512 .f32) (a7 : FVec Ideal S512 .f32) (a8 : FVec Ideal S8x2052x256 .f32) (a9 : FVec Ideal S8 .f32) (a10 : FVec Ideal S8 .f32) (a11 : FVec Ideal S8 .f32) (a12 : FVec Ideal S8 .f32) (a13 : FVec Ideal S8x2048x128 .f32) (a14 : FVec Ideal S8 .f32) (a15 : FVec Ideal S8 .f32) (a16 : FVec Ideal S8 .f32) (a17 : FVec Ideal S8 .f32) (a18 : FVec Ideal S1024x2048 .f32) (a19 : FVec Ideal S2048 .f32) (a20 : FVec Ideal S2048x3129 .f32) (a21 : FVec Ideal S3129 .f32)
    (h : fn (F := Ideal) a0 a1 a2 a3 a4 a5 a6 a7 a8 a9 a10 a11 a12 a13 a14 a15 a16 a17 a18 a19 a20 a21 = fun _ => 1#1) :
    (∃ A : All, Args A a0 a1 a2 a4 a5 a6 a7 a8 a9 a10 a11 a12 a13 a14 a15 a16 a17) ∧ ∀ n i, a3 (ix2 n i) = 1 := by
  have e := congrFun h (fun a => a.elim0)
  unfold fn fn_part1 fn_part2 at e
  dsimp only at e
  simp only [andi, IntOp.andi_eq_one] at e
  obtain ⟨⟨⟨⟨⟨⟨⟨⟨h3, h0⟩, h1⟩, h2⟩, h4⟩, h5⟩, h6⟩, h7⟩, h8⟩ := e
  refine ⟨⟨⟨fun i j k => (a0 (ix3 i j k)).toReal, fun i j k => (a1 (ix3 i j k)).toReal, fun i j => (a2 (ix2 i j)).toReal, fun i j => (a4 (ix2 i j)).toReal, fun i => (a5 (ix1 i)).toReal, fun i j => (a6 (ix2 i j)).toReal, fun i => (a7 (ix1 i)).toReal, fun i j k => (a8 (ix3 i j k)).toReal, fun i => a9 (ix1 i), fun i => a10 (ix1 i), fun i => a11 (ix1 i), fun i => a12 (ix1 i), fun i j k => a13 (ix3 i j k), fun i => a14 (ix1 i), fun i => a15 (ix1 i), fun i => a16 (ix1 i), fun i => a17 (ix1 i)⟩, ⟨fun _ _ _ => real_of_all a0 _ _ _ _ h0 _, fun _ _ _ => real_of_all a1 _ _ _ _ h1 _, fun _ _ => real_of_all a2 _ _ _ _ h2 _, fun _ _ => real_of_all a4 _ _ _ _ h4 _, fun _ => real_of_all a5 _ _ _ _ h5 _, fun _ _ => real_of_all a6 _ _ _ _ h6 _, fun _ => real_of_all a7 _ _ _ _ h7 _, fun _ _ _ => real_of_all a8 _ _ _ _ h8 _, fun _ => rfl, fun _ => rfl, fun _ => rfl, fun _ => rfl, fun _ _ _ => rfl, fun _ => rfl, fun _ => rfl, fun _ => rfl, fun _ => rfl⟩⟩, fun n i => one_of_all a3 _ _ _ _ h3 _⟩

end Cert.Net

end
-- ==== Proof.Scores.lean ====
/-
  The two programs end with the same scores: each computes the network at the real arguments that the precondition gives.
-/
module

public import proofs.«01_k».proof.Defs
public import proofs.«01_k».proof.Proof.KernelRun
public import proofs.«01_k».proof.Proof.RefScores
public import proofs.«01_k».proof.Proof.FromPre
public import proofs.«01_k».proof.Proof.Gen.ReferenceIdeal.Run

@[expose] public section

noncomputable section

namespace Cert.Net

open Idealize.ShloMosaic Idealize.ShloMosaic.TcCoe Idealize.SL.Sem Cert.ReferenceIdeal.Read

/-- The kernel's scores are the reference's function of the same arguments. -/
theorem scores_eq [Cert.Pre_finite_and_unmasked.Facts] (m : (ℓ : Loc Cert.KernelIdeal.nD Cert.KernelIdeal.τ Cert.KernelIdeal.sig) → Buf (Elt Ideal) ℓ)
    (ρ : Dev Cert.KernelIdeal.nD → PrngReg) (h : Cert.Pre_KernelIdeal_finite_and_unmasked m) (c : Dev Cert.KernelIdeal.nD) :
    Cert.KernelIdeal.Gen.W4 m ρ c (Proc.devRef .tc Cert.KernelIdeal.main_v49)
      = val_main_v230 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (m (c.tc.loc Cert.KernelIdeal.main_arg11)) (m (c.tc.loc Cert.KernelIdeal.main_arg12)) (m (c.tc.loc Cert.KernelIdeal.main_arg13)) (m (c.tc.loc Cert.KernelIdeal.main_arg14)) (m (c.tc.loc Cert.KernelIdeal.main_arg15)) (m (c.tc.loc Cert.KernelIdeal.main_arg16)) (m (c.tc.loc Cert.KernelIdeal.main_arg17)) (m (c.tc.loc Cert.KernelIdeal.main_arg18)) (m (c.tc.loc Cert.KernelIdeal.main_arg19)) (m (c.tc.loc Cert.KernelIdeal.main_arg20)) (m (c.tc.loc Cert.KernelIdeal.main_arg21)) := by
  obtain ⟨⟨A, hA⟩, hm⟩ := args_of_pre _ _ _ _ _ _ _ _ _ _ _ _ _ _ _ _ _ _ _ _ _ _ (h c)
  exact (scores ρ hA).trans (scores_ref hA hm _ _ _ _).symm

theorem algebraic : Cert.algebraic_KernelIdeal_ReferenceIdeal_pre_finite_and_unmasked (hKernelIdeal := Cert.KernelIdeal.Gen.facts)
    (hReferenceIdeal := Cert.ReferenceIdeal.Gen.facts) (hPre_finite_and_unmasked := pre_facts) := by
  intro m g m' g' hpre hm
  refine ⟨fun c => Cert.KernelIdeal.Gen.W4 m g c (Proc.devRef .tc Cert.KernelIdeal.main_v49), ?_, ?_⟩
  · refine (θ_run Cert.KernelIdeal.defs _ _).mono (fun r h c => ⟨(h.1 c).1, ?_⟩) (kernel_run m g)
    have k := (h.1 c).2
    and_intros <;> exact k _ (by decide)
  · refine (θ_run Cert.ReferenceIdeal.defs _ _).mono (fun r h c => ⟨((h c).1.trans (val_main_v230_eq (StableHlo.launchContents m' c))).trans ?_, (h c).2⟩)
      (Cert.ReferenceIdeal.Value.run (F := Ideal) m' g')
    obtain ⟨e0, e1, e2, e3, e4, e5, e6, e7, e8, e9, e10, e11, e12, e13, e14, e15, e16, e17, e18, e19, e20, e21⟩ := hm c
    refine Eq.trans ?_ (@scores_eq pre_facts m g hpre c).symm
    show val_main_v230 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) (m' (c.tc.loc Cert.ReferenceIdeal.main_arg10)) (m' (c.tc.loc Cert.ReferenceIdeal.main_arg11)) (m' (c.tc.loc Cert.ReferenceIdeal.main_arg12)) (m' (c.tc.loc Cert.ReferenceIdeal.main_arg13)) (m' (c.tc.loc Cert.ReferenceIdeal.main_arg14)) (m' (c.tc.loc Cert.ReferenceIdeal.main_arg15)) (m' (c.tc.loc Cert.ReferenceIdeal.main_arg16)) (m' (c.tc.loc Cert.ReferenceIdeal.main_arg17)) (m' (c.tc.loc Cert.ReferenceIdeal.main_arg18)) (m' (c.tc.loc Cert.ReferenceIdeal.main_arg19)) (m' (c.tc.loc Cert.ReferenceIdeal.main_arg20)) (m' (c.tc.loc Cert.ReferenceIdeal.main_arg21)) = _
    rw [e0, e1, e2, e3, e4, e5, e6, e7, e8, e9, e10, e11, e12, e13, e14, e15, e16, e17, e18, e19, e20, e21]

end Cert.Net

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Scores

@[expose] public section

noncomputable section

namespace Cert.Proof

open Idealize.ShloMosaic Idealize.SL.Sem Cert.Kernel

/-- The reference runs and every counter ends at zero: it launches no kernel and has no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Net.pre_facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial, Cert.Net.algebraic⟩

end Cert.Proof

end
